-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S50000x1 : Shape := ⟨2, ![50000, 1]⟩
abbrev S50000 : Shape := ⟨1, ![50000]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel

variable [Facts]

def fn {F : FTy → Type} [FloatOps F] (main_arg0 : FVec F S50000x1 .f32) (main_arg1 : FVec F S50000x1 .f32) (main_arg2 : FVec F S50000 .f32) : IVec S_ 1 :=
  let main_cst : FVec F S_ .f32 := constant S_ .f32 0x00000000#32
  let main_v0 : FVec F S50000x1 .f32 := broadcastInDim S50000x1 ![] bcast_S_S50000x1 main_cst
  let main_v1 : IVec S50000x1 1 := cmpf .oge main_arg0 main_v0
  let main_cst_0 : FVec F S_ .f32 := constant S_ .f32 0x3F800000#32
  let main_v2 : FVec F S50000x1 .f32 := broadcastInDim S50000x1 ![] bcast_S_S50000x1 main_cst_0
  let main_v3 : IVec S50000x1 1 := cmpf .olt main_arg0 main_v2
  let main_v4 : IVec S50000x1 1 := andi main_v1 main_v3
  let main_c : IVec S_ 1 := constantI S_ 1 1#1
  let main_v5 : IVec S_ 1 := (fun x v => Host.reduce IntOp.andi x v reducesTo_S50000x1_S_d0_1 h_S_) main_v4 main_c
  let main_cst_1 : FVec F S_ .f32 := constant S_ .f32 0x00000000#32
  let main_v6 : FVec F S50000x1 .f32 := broadcastInDim S50000x1 ![] bcast_S_S50000x1 main_cst_1
  let main_v7 : IVec S50000x1 1 := cmpf .oge main_arg1 main_v6
  let main_cst_2 : FVec F S_ .f32 := constant S_ .f32 0x3F800000#32
  let main_v8 : FVec F S50000x1 .f32 := broadcastInDim S50000x1 ![] bcast_S_S50000x1 main_cst_2
  let main_v9 : IVec S50000x1 1 := cmpf .olt main_arg1 main_v8
  let main_v10 : IVec S50000x1 1 := andi main_v7 main_v9
  let main_c_3 : IVec S_ 1 := constantI S_ 1 1#1
  let main_v11 : IVec S_ 1 := (fun x v => Host.reduce IntOp.andi x v reducesTo_S50000x1_S_d0_1 h_S_) main_v10 main_c_3
  let main_v12 : IVec S_ 1 := andi main_v5 main_v11
  main_v12
-- ==== Kernel.lean ====
abbrev S50000x1 : Shape := ⟨2, ![50000, 1]⟩
abbrev S50000 : Shape := ⟨1, ![50000]⟩
abbrev S184448 : Shape := ⟨1, ![184448]⟩
abbrev S10000 : Shape := ⟨1, ![10000]⟩
abbrev S5888 : Shape := ⟨1, ![5888]⟩
abbrev S16 : Shape := ⟨1, ![16]⟩
abbrev S_ : Shape := ⟨0, ![]⟩
abbrev S5760 : Shape := ⟨1, ![5760]⟩
abbrev S1441x128 : Shape := ⟨2, ![1441, 128]⟩
abbrev S1441x2880 : Shape := ⟨2, ![1441, 2880]⟩
abbrev S128x128 : Shape := ⟨2, ![128, 128]⟩
abbrev S128x2880 : Shape := ⟨2, ![128, 2880]⟩

abbrev nBuf : Table → Nat
  | .hbm => 8
  | .local .tc .vmem => 4
  | .local .scVector .vmem => 4
  | _ => 0

abbrev bufTy : (tb : Table) → Fin (nBuf tb) → BufTy
  | .hbm, ⟨0, _⟩ => ⟨S50000x1, .f32⟩
  | .hbm, ⟨1, _⟩ => ⟨S50000x1, .f32⟩
  | .hbm, ⟨2, _⟩ => ⟨S50000, .f32⟩
  | .hbm, ⟨3, _⟩ => ⟨S50000, .f32⟩
  | .hbm, ⟨4, _⟩ => ⟨S50000, .f32⟩
  | .hbm, ⟨5, _⟩ => ⟨S184448, .f32⟩
  | .hbm, ⟨6, _⟩ => ⟨S1441x128, .f32⟩
  | .hbm, ⟨7, _⟩ => ⟨S1441x2880, .f32⟩
  | .local .tc .vmem, ⟨0, _⟩ => ⟨S128x128, .f32⟩
  | .local .tc .vmem, ⟨1, _⟩ => ⟨S128x128, .f32⟩
  | .local .tc .vmem, ⟨2, _⟩ => ⟨S128x2880, .f32⟩
  | .local .tc .vmem, ⟨3, _⟩ => ⟨S128x2880, .f32⟩
  | .local .scVector .vmem, ⟨0, _⟩ => ⟨S10000, .f32⟩
  | .local .scVector .vmem, ⟨1, _⟩ => ⟨S10000, .f32⟩
  | .local .scVector .vmem, ⟨2, _⟩ => ⟨S10000, .f32⟩
  | .local .scVector .vmem, ⟨3, _⟩ => ⟨S5888, .f32⟩
  | _, _ => ⟨S50000x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v1_scv : Ref sig .scVector := ⟨.hbm, 4, rfl⟩
abbrev main_arg2_scv : Ref sig .scVector := ⟨.hbm, 2, rfl⟩
abbrev main_v2_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c368_i32 : BitVec 32 := 368#32
  let v5 : BitVec 32 := Scalar.addi c0_i32_0 c368_i32
  let c1_i32 : BitVec 32 := 1#32
  ⟨c0_i32_0, v5, c1_i32⟩
def k0_off1 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32_9 : BitVec 32 := 16#32
  let v13 : BitVec 32 := Scalar.muli arg10 c16_i32_9
  let v14 : Index := Scalar.indexCast v13
  ![v14.toNat]
@[reducible] def k0_t2_loop : Scf.Loop 32 :=
  let c0_i32_3 : BitVec 32 := 0#32
  let c5_i32 : BitVec 32 := 5#32
  let v6 : BitVec 32 := Scalar.addi c0_i32_3 c5_i32
  let c1_i32_4 : BitVec 32 := 1#32
  ⟨c0_i32_3, v6, c1_i32_4⟩
def k0_off2 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c10000_i32 : BitVec 32 := 10000#32
  let v13 : BitVec 32 := Scalar.muli arg10 c10000_i32
  ![v13.toNat]
@[reducible] def k0_t3_loop : Scf.Loop 32 :=
  let c0_i32_10 : BitVec 32 := 0#32
  let c625_i32 : BitVec 32 := 625#32
  let v14 : BitVec 32 := Scalar.addi c0_i32_10 c625_i32
  let c1_i32_11 : BitVec 32 := 1#32
  ⟨c0_i32_10, v14, c1_i32_11⟩
def k0_off3 (k0_t3 : Fin k0_t3_loop.trips) : Fin 1 → Nat :=
  let c0_i32_10 : BitVec 32 := 0#32
  let c1_i32_11 : BitVec 32 := 1#32
  let arg11 : BitVec 32 := Scf.iv c0_i32_10 c1_i32_11 k0_t3
  let c16_i32_13 : BitVec 32 := 16#32
  let v15 : BitVec 32 := Scalar.muli arg11 c16_i32_13
  let v16 : Index := Scalar.indexCast v15
  ![v16.toNat]

def k0_chk1 (v51 : IVec S16 32) : Prop :=
  (∀ a x, ((![v51] : Fin 1 → IVec S16 32) a x).toNat < S5888.size a)
theorem k0_idx1_inb : ∀ (v51 : IVec S16 32) (k0_hw1 : k0_chk1 v51), ∀ a x, ((![v51] : Fin 1 → IVec S16 32) a x).toNat < S5888.size a := fun v51 k0_hw1 => k0_hw1
def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v7 : BitVec 1 := Scalar.cmpi .eq v1 c31_i32
  let v8 : BitVec 32 := Scalar.extui v7
  let c0_i32_6 : BitVec 32 := 0#32
  let v9 : BitVec 1 := Scalar.cmpi .ne v8 c0_i32_6
  v9

def k0_off4 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c45_i32 : BitVec 32 := 45#32
  let v2 : BitVec 32 := Scalar.muli v1 c45_i32
  let c128_i32 : BitVec 32 := 128#32
  let v3 : BitVec 32 := Scalar.muli v2 c128_i32
  ![v3.toNat]
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_7 : BitVec 32 := 31#32
  let v10 : BitVec 1 := Scalar.cmpi .ne v1 c31_i32_7
  let v11 : BitVec 32 := Scalar.extui v10
  let c0_i32_8 : BitVec 32 := 0#32
  let v12 : BitVec 1 := Scalar.cmpi .ne v11 c0_i32_8
  v12

def k0_off5 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c45_i32 : BitVec 32 := 45#32
  let v2 : BitVec 32 := Scalar.muli v1 c45_i32
  let c128_i32 : BitVec 32 := 128#32
  let v3 : BitVec 32 := Scalar.muli v2 c128_i32
  ![v3.toNat]
abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2880 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x1 : Shape := ⟨2, ![50000, 1]⟩
abbrev S50000 : Shape := ⟨1, ![50000]⟩
abbrev S_ : Shape := ⟨0, ![]⟩
abbrev S1441x2880 : Shape := ⟨2, ![1441, 2880]⟩
abbrev S50000x2 : Shape := ⟨2, ![50000, 2]⟩

abbrev nBuf : Space → Nat
  | .hbm => 51
  | .vmem => 0
  | .smem => 0
  | _ => 0

abbrev bufTy : (tb : Table) → Fin (tcTables nBuf tb) → BufTy
  | .hbm, ⟨0, _⟩ => ⟨S50000x1, .f32⟩
  | .hbm, ⟨1, _⟩ => ⟨S50000x1, .f32⟩
  | .hbm, ⟨2, _⟩ => ⟨S50000, .f32⟩
  | .hbm, ⟨3, _⟩ => ⟨S_, .f32⟩
  | .hbm, ⟨4, _⟩ => ⟨S50000x1, .f32⟩
  | .hbm, ⟨5, _⟩ => ⟨S50000x1, .f32⟩
  | .hbm, ⟨6, _⟩ => ⟨S_, .f32⟩
  | .hbm, ⟨7, _⟩ => ⟨S50000x1, .f32⟩
  | .hbm, ⟨8, _⟩ => ⟨S50000x1, .f32⟩
  | .hbm, ⟨9, _⟩ => ⟨S_, .f32⟩
  | .hbm, ⟨10, _⟩ => ⟨S50000x1, .f32⟩
  | .hbm, ⟨11, _⟩ => ⟨S50000x1, .f32⟩
  | .hbm, ⟨12, _⟩ => ⟨S_, .f32⟩
  | .hbm, ⟨13, _⟩ => ⟨S50000x1, .f32⟩
  | .hbm, ⟨14, _⟩ => ⟨S50000x1, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000, .i32⟩
  | .hbm, ⟨27, _⟩ => ⟨S_, .f32⟩
  | .hbm, ⟨28, _⟩ => ⟨S1441x2880, .f32⟩
  | .hbm, ⟨29, _⟩ => ⟨S_, .i32⟩
  | .hbm, ⟨30, _⟩ => ⟨S50000, .i32⟩
  | .hbm, ⟨31, _⟩ => ⟨S50000, .i1⟩
  | .hbm, ⟨32, _⟩ => ⟨S_, .i32⟩
  | .hbm, ⟨33, _⟩ => ⟨S50000, .i32⟩
  | .hbm, ⟨34, _⟩ => ⟨S50000, .i32⟩
  | .hbm, ⟨35, _⟩ => ⟨S50000, .i32⟩
  | .hbm, ⟨36, _⟩ => ⟨S_, .i32⟩
  | .hbm, ⟨37, _⟩ => ⟨S50000, .i32⟩
  | .hbm, ⟨38, _⟩ => ⟨S50000, .i1⟩
  | .hbm, ⟨39, _⟩ => ⟨S_, .i32⟩
  | .hbm, ⟨40, _⟩ => ⟨S50000, .i32⟩
  | .hbm, ⟨41, _⟩ => ⟨S50000, .i32⟩
  | .hbm, ⟨42, _⟩ => ⟨S50000, .i32⟩
  | .hbm, ⟨43, _⟩ => ⟨S50000x1, .i32⟩
  | .hbm, ⟨44, _⟩ => ⟨S50000x1, .i32⟩
  | .hbm, ⟨45, _⟩ => ⟨S50000x2, .i32⟩
  | .hbm, ⟨46, _⟩ => ⟨S1441x2880, .f32⟩
  | .hbm, ⟨47, _⟩ => ⟨S_, .f32⟩
  | .hbm, ⟨48, _⟩ => ⟨S1441x2880, .f32⟩
  | .hbm, ⟨49, _⟩ => ⟨S1441x2880, .f32⟩
  | .hbm, ⟨50, _⟩ => ⟨S1441x2880, .f32⟩
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_7 : Ref sig .tc := ⟨.hbm, 36, rfl⟩
abbrev main_v24 : Ref sig .tc := ⟨.hbm, 37, rfl⟩
abbrev main_v25 : Ref sig .tc := ⟨.hbm, 38, rfl⟩
abbrev main_c_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Proof.KernelIdealTile.lean ====
/-
  One vector subcore's task of the kernel, run from what the launch hands it: it zeroes a buffer of 46 rows by 128
  columns, walks over all 50000 stars sixteen at a time, storing the scaled magnitudes of those that fall into its 45
  rows, and copies the buffer to its part of the canvas. What the buffer holds after `g` groups of sixteen stars is the
  function `locAt … g`, and what the whole canvas holds in the end is `canvas`; the loops' invariants carry both.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions on this program's handshake semaphores and buffers, each read off the tables. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers as a task addresses them -/

local notation "rV" => (Memref.whole Cert.KernelIdeal.main_v0_scv : Memref Cert.KernelIdeal.sig Kind.scVector Space.hbm Cert.KernelIdeal.S50000 EltTy.f32)
local notation "dV" => (Memref.whole Cert.KernelIdeal.main_v1_scv : Memref Cert.KernelIdeal.sig Kind.scVector Space.hbm Cert.KernelIdeal.S50000 EltTy.f32)
local notation "mV" => (Memref.whole Cert.KernelIdeal.main_arg2_scv : Memref Cert.KernelIdeal.sig Kind.scVector Space.hbm Cert.KernelIdeal.S50000 EltTy.f32)
local notation "oV" => (Memref.whole Cert.KernelIdeal.main_v2_scv : Memref Cert.KernelIdeal.sig Kind.scVector Space.hbm Cert.KernelIdeal.S184448 EltTy.f32)
local notation "rB" => (Memref.whole Cert.KernelIdeal.cc0_scratch0 : Memref Cert.KernelIdeal.sig Kind.scVector Space.vmem Cert.KernelIdeal.S10000 EltTy.f32)
local notation "dB" => (Memref.whole Cert.KernelIdeal.cc0_scratch1 : Memref Cert.KernelIdeal.sig Kind.scVector Space.vmem Cert.KernelIdeal.S10000 EltTy.f32)
local notation "mB" => (Memref.whole Cert.KernelIdeal.cc0_scratch2 : Memref Cert.KernelIdeal.sig Kind.scVector Space.vmem Cert.KernelIdeal.S10000 EltTy.f32)
local notation "lB" => (Memref.whole Cert.KernelIdeal.cc0_scratch3 : Memref Cert.KernelIdeal.sig Kind.scVector Space.vmem Cert.KernelIdeal.S5888 EltTy.f32)

/-- The stars' right ascensions and declinations, their magnitudes, the canvas, as locations of device `d`. -/
abbrev rLoc (d : Dev nD) : Loc nD τ sig := (SparseCore.T d).loc main_v0
abbrev dLoc (d : Dev nD) : Loc nD τ sig := (SparseCore.T d).loc main_v1
abbrev mLoc (d : Dev nD) : Loc nD τ sig := (SparseCore.T d).loc main_arg2
abbrev oLoc (d : Dev nD) : Loc nD τ sig := (SparseCore.T d).loc main_v2

/-! ## What a task computes -/

/-- Star number `n` as an index of the star arrays. -/
def starIx (n : ℕ) : S50000.Idx := fun | 0 => ⟨n % 50000, Nat.mod_lt _ (by decide)⟩ | ⟨_ + 1, h⟩ => absurd h (Nat.not_lt.2 (Nat.le_add_left _ _))

/-- Group `g` of sixteen consecutive entries of a star array. -/
def group (X : S50000.Idx → Elt F .f32) (g : ℕ) : Vec F S16 .f32 := fun x => X (starIx (16 * g + (x 0).val))

variable [FloatOps F]

/-- The clamped store index is inside the buffer, whatever the two words it is computed from. -/
theorem chk_all (L : grid0.Coords) (v17 v19 : Vec F S16 .f32) : k0_chk1 (k0_pay4 L v17 v19) := by
  intro a x
  have ha : a = 0 := Fin.eq_zero a
  subst ha
  show (k0_pay4 L v17 v19 x).toNat < 5888
  unfold k0_pay4
  dsimp only [minsi, maxsi, broadcast]
  generalize (addi (muli (k0_pay2 L v19) _) _ x) = y
  simp only [IntOp.minsi, IntOp.maxsi, BitVec.slt_eq_decide, decide_eq_true_eq]
  have e0 : (0#32 : BitVec 32).toInt = 0 := by decide
  have e1 : (5887#32 : BitVec 32).toInt = 5887 := by decide
  have e2 : (5887#32 : BitVec 32).toNat = 5887 := by decide
  have e3 : (0#32 : BitVec 32).toNat = 0 := by decide
  have hy := BitVec.toInt_eq_toNat_cond y
  split_ifs <;> simp only [e0, e1, e2, e3] at * <;> first | omega | (split_ifs at hy <;> omega)

/-- One group's masked store into the task's buffer `f`. -/
def locStep (L : grid0.Coords) (R D M : S50000.Idx → Elt F .f32) (g : ℕ) (f : Vec F S5888 .f32) : Vec F S5888 .f32 :=
  storeIdx f ![k0_pay4 L (group R g) (group D g)] (k0_pay5 (group M g)) (k0_pay3 L (group D g)) false
    (k0_idx1_inb _ (chk_all L (group R g) (group D g)))

/-- What the task's buffer holds after the first `g` groups: zero, then one store per group. -/
def locAt (L : grid0.Coords) (R D M : S50000.Idx → Elt F .f32) : ℕ → Vec F S5888 .f32
  | 0 => fun _ => Scalar.ofBits .f32 0x00000000#32
  | g + 1 => locStep L R D M g (locAt L R D M g)

theorem locAt_zero (L : grid0.Coords) (R D M : S50000.Idx → Elt F .f32) : locAt L R D M 0 = fun _ => Scalar.ofBits .f32 0x00000000#32 := rfl
theorem locAt_succ (L : grid0.Coords) (R D M : S50000.Idx → Elt F .f32) (g : ℕ) : locAt L R D M (g + 1) = locStep L R D M g (locAt L R D M g) := rfl

attribute [irreducible] locAt

/-- The grid coordinates of task number `w` of the thirty-two: SparseCore `w / 16`, tile `w % 16`. -/
def coordsOf (w : ℕ) : grid0.Coords :=
  fun | 0 => ⟨w / 16 % 2, Nat.mod_lt _ (by decide)⟩ | 1 => ⟨w % 16, Nat.mod_lt _ (by decide)⟩ | ⟨_ + 2, h⟩ => absurd h (Nat.not_lt.2 (Nat.le_add_left _ _))

/-- The task that writes element `j` of the canvas: 5760 elements each, the last task the 128 left over as well. -/
def ownerOf (j : S184448.Idx) : ℕ := min ((j 0).val / 5760) 31

theorem canvas_ix_lt (j : S184448.Idx) : (j 0).val - 5760 * ownerOf j < 5888 := by
  have h : (j 0).val < 184448 := (j 0).isLt
  unfold ownerOf; omega

/-- Element `n` of a task's buffer. -/
def locIx (n : ℕ) (h : n < 5888) : S5888.Idx := fun | 0 => ⟨n, h⟩ | ⟨_ + 1, h⟩ => absurd h (Nat.not_lt.2 (Nat.le_add_left _ _))

/-- What the canvas holds once every task is done: each element is its owner's, after all 3125 groups. -/
def canvas (R D M : S50000.Idx → Elt F .f32) : S184448.Idx → Elt F .f32 := fun j =>
  locAt (coordsOf (ownerOf j)) R D M 3125 (locIx _ (canvas_ix_lt j))

/-! ## The task's pieces -/

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

omit [FloatOps F] in
theorem L0_lt (L : grid0.Coords) : (L 0).val < 2 := (L 0).isLt
omit [FloatOps F] in
theorem L1_lt (L : grid0.Coords) : (L 1).val < 16 := (L 1).isLt

/-- The task's number. -/
def wid (L : grid0.Coords) : ℕ := 16 * (L 0).val + (L 1).val

omit [FloatOps F] in
theorem coordsOf_wid : coordsOf (wid L) = L := by
  have h0 := L0_lt L; have h1 := L1_lt L
  funext a
  match a with
  | 0 => apply Fin.ext; show wid L / 16 % 2 = (L 0).val; unfold wid; omega
  | 1 => apply Fin.ext; show wid L % 16 = (L 1).val; unfold wid; omega

/-- The elements of the canvas task number `w` writes. -/
def canvSet (w : ℕ) : Finset S184448.Idx := Finset.univ.filter fun j => ownerOf j = w

omit [FloatOps F] in
theorem mem_canvSet (w : ℕ) (j : S184448.Idx) : j ∈ canvSet w ↔ min ((j 0).val / 5760) 31 = w :=
  ⟨fun h => (Finset.mem_filter.mp h).2, fun h => Finset.mem_filter.mpr ⟨Finset.mem_univ _, h⟩⟩

/-- The canvas' parts as the body slices them, for the last task and for the others. -/
abbrev oLast (h : k0_cond1 L = 1#1) : Memref sig .scVector .hbm S5888 .f32 :=
  (oV).slice (Rect.unit (s := S184448) (k0_off4 L) S5888.size (k0_off4_inb L h)) (fun _ => rfl)
abbrev oPart (h : k0_cond2 L = 1#1) : Memref sig .scVector .hbm S5760 .f32 :=
  (oV).slice (Rect.unit (s := S184448) (k0_off5 L) S5760.size (k0_off5_inb L h)) (fun _ => rfl)

omit [FloatOps F] in
/-- The first branch is the last task's. -/
theorem cond1_iff : ∀ L : grid0.Coords, k0_cond1 L = 1#1 ↔ wid L = 31 := by
  unfold wid; decide +kernel
omit [FloatOps F] in
/-- The second branch is every other task's. -/
theorem cond2_iff : ∀ L : grid0.Coords, k0_cond2 L = 1#1 ↔ wid L ≠ 31 := by
  unfold wid; decide +kernel

omit [FloatOps F] in
theorem set_oLast (h : k0_cond1 L = 1#1) : (oLast L h).view.set = canvSet (wid L) := by
  have hw := (cond1_iff L).mp h
  show ((View.whole (main_v2_scv : Ref sig .scVector)).slice (Rect.unit (s := S184448) (k0_off4 L) S5888.size (k0_off4_inb L h))).set = _
  rw [View.set_slice]; refine Finset.map_refl.trans ?_
  refine Finset.ext fun (j : S184448.Idx) => ?_
  rw [Rect.mem_set_unit]
  have hj : (j 0).val < 184448 := (j 0).isLt
  have ho : k0_off4 L 0 = 5760 * wid L := by rw [k0_off4_eq]; show 92160 * _ + 5760 * _ = _; unfold wid; omega
  refine Iff.trans ?_ (mem_canvSet (wid L) j).symm
  constructor
  · intro H
    have H0 := H 0
    rw [ho] at H0
    change 5760 * wid L ≤ (j 0).val ∧ (j 0).val < 5760 * wid L + 5888 at H0
    omega
  · intro H a
    have ha : a = 0 := Fin.eq_zero a
    subst ha
    rw [ho]
    show 5760 * wid L ≤ (j 0).val ∧ (j 0).val < 5760 * wid L + 5888
    omega

omit [FloatOps F] in
theorem set_oPart (h : k0_cond2 L = 1#1) : (oPart L h).view.set = canvSet (wid L) := by
  have hw := (cond2_iff L).mp h
  have hw' : wid L < 31 := by have := L0_lt L; have := L1_lt L; unfold wid at *; omega
  show ((View.whole (main_v2_scv : Ref sig .scVector)).slice (Rect.unit (s := S184448) (k0_off5 L) S5760.size (k0_off5_inb L h))).set = _
  rw [View.set_slice]; refine Finset.map_refl.trans ?_
  refine Finset.ext fun (j : S184448.Idx) => ?_
  rw [Rect.mem_set_unit]
  have hj : (j 0).val < 184448 := (j 0).isLt
  have ho : k0_off5 L 0 = 5760 * wid L := by rw [k0_off5_eq]; show 92160 * _ + 5760 * _ = _; unfold wid; omega
  refine Iff.trans ?_ (mem_canvSet (wid L) j).symm
  constructor
  · intro H
    have H0 := H 0
    rw [ho] at H0
    change 5760 * wid L ≤ (j 0).val ∧ (j 0).val < 5760 * wid L + 5760 at H0
    omega
  · intro H a
    have ha : a = 0 := Fin.eq_zero a
    subst ha
    rw [ho]
    show 5760 * wid L ≤ (j 0).val ∧ (j 0).val < 5760 * wid L + 5760
    omega

/-! ### The loops' trips in values -/

/-- A load of sixteen entries of a chunk that holds entries `10000 c …` of a star array reads a group of it. -/
theorem chunk_group (X : S50000.Idx → Elt F .f32) (c : Fin k0_t2_loop.trips) (v : Fin k0_t3_loop.trips)
    (f : S10000.Idx → Elt F .f32) (hf : ∀ x, f x = X (starIx (10000 * c.val + (x 0).val)))
    (x : S16.Idx) :
    f ((Rect.unit (s := S10000) (k0_off3 v) S16.size (k0_off3_inb v)).toLoadRect.idx x) = group X (625 * c.val + v.val) x := by
  rw [hf]
  unfold group
  congr 2
  have : ((Rect.unit (s := S10000) (k0_off3 v) S16.size (k0_off3_inb v)).toLoadRect.idx x 0).val = k0_off3 v 0 + 1 * (x 0).val := rfl
  rw [this, k0_off3_eq]
  show _ + (16 * v.val + 1 * (x 0).val) = _
  omega

/-- The five transfer cells a task names, at zero. -/
abbrev csem (k : Nat) (hk : k < 5 := by decide) : DmaSem sig := (![cc0_scoped0.sem, cc0_scoped1.sem, cc0_scoped2.sem, cc0_scoped3.sem, cc0_scoped4.sem] : Fin 5 → DmaSem sig) ⟨k, hk⟩
abbrev dcell (d : Dev nD) (c : Fin τ.nSC) (i : Fin τ.nSub) (k : Fin 5) : GSem nD τ sig := (V d c i, .dma (csem k.val k.isLt))
abbrev cells0 (d : Dev nD) (L : grid0.Coords) : sProp 𝕄 :=
  iprop(semVal (VT d L, SemLoc.dma cc0_scoped0.sem) 0 ∗ semVal (VT d L, SemLoc.dma cc0_scoped1.sem) 0 ∗ semVal (VT d L, SemLoc.dma cc0_scoped2.sem) 0
    ∗ semVal (VT d L, SemLoc.dma cc0_scoped3.sem) 0 ∗ semVal (VT d L, SemLoc.dma cc0_scoped4.sem) 0)

omit [FloatOps F] in
theorem dcell_mem (c : Fin τ.nSC) (i : Fin τ.nSub) (k : Fin 5) : dcell d c i k ∈ ownCells (V d c i) :=
  mem_ownCells.mpr ⟨rfl, (show ∀ k : Fin 5, (SemLoc.dma (csem k.val k.isLt) : SemLoc sig).isScoped .scVector = true by decide) k⟩

omit [FloatOps F] in
/-- The subcore's own cells at zero: the five the task names, and the rest. -/
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      exact (show ∀ a b : Fin 5, (SemLoc.dma (csem a.val a.isLt) : SemLoc sig) = SemLoc.dma (csem b.val b.isLt) → a = b by decide) a b this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The four scratch buffers a task names. -/
abbrev sref (k : Fin 4) : Ref sig .scVector := (![cc0_scratch0, cc0_scratch1, cc0_scratch2, cc0_scratch3] : Fin 4 → Ref sig .scVector) k

omit [FloatOps F] in
/-- The subcore's own buffers: the four scratch buffers at some contents, and the rest. -/
theorem ownBufs_V :
    (ownBufs (VT d L) : sProp 𝕄)
      = iprop(((∃ f, (VT d L).loc cc0_scratch0 ↦{fullShare} f) ∗ (∃ f, (VT d L).loc cc0_scratch1 ↦{fullShare} f)
            ∗ (∃ f, (VT d L).loc cc0_scratch2 ↦{fullShare} f) ∗ (∃ f, (VT d L).loc cc0_scratch3 ↦{fullShare} f))
          ∗ bigSep ((ownRefs (τ := τ) (.scVector (cV L) (jV L))) \ Finset.univ.image fun k : Fin 4 => (Proc.scVector (cV L) (jV L)).devRef (sref k))
              fun b => iprop(∃ f, ((d, b) : Loc nD τ sig) ↦{fullShare} f)) := by
  unfold SparseCore.Cfg.ownBufs
  rw [SparseCore.bigSep_sdiff_split' (t := Finset.univ.image fun k : Fin 4 => (Proc.scVector (cV L) (jV L)).devRef (sref k))
      (Finset.image_subset_iff.mpr fun k _ => SparseCore.Cfg.mem_ownRefs_of_owner (p := Proc.scVector (cV L) (jV L))
        (b := (Proc.scVector (cV L) (jV L)).devRef (sref k)) (by fin_cases k <;> rfl)),
    SparseCore.bigSep_image_of_injOn (fun a _ b _ h =>
      (show ∀ a b : Fin 4, sref a = sref b → a = b by decide) a b (Proc.devRef_injective _ h))]
  rw [show (Finset.univ : Finset (Fin 4)) = {0, 1, 2, 3} by decide,
    SparseCore.bigSep_insert' (by decide), SparseCore.bigSep_insert' (by decide), SparseCore.bigSep_insert' (by decide), bigSep_singleton]
  rfl

/-! ### The three loops -/

variable (R D' M : S50000.Idx → Elt F .f32)

/-- The zeroing loop's invariant: after `t` trips the buffer's first `16 t` elements are zero. -/
def inv1 (t : Nat) (_ : PUnit) : sProp 𝕄 :=
  iprop(∃ f : S5888.Idx → Elt F .f32, ⌜∀ j, (j 0).val < 16 * t → f j = Scalar.ofBits .f32 0x00000000#32⌝ ∗ (lB).view.loc (VT d L) ↦{fullShare} f)

/-- The group loop's invariant in chunk `c`: the chunk's three buffers, and the task's buffer after `625 c + v` groups. -/
def inv3 (c : Nat) (fr fd fm : S10000.Idx → Elt F .f32) (v : Nat) (_ : PUnit) : sProp 𝕄 :=
  iprop(((rB).view.loc (VT d L) ↦{fullShare} fr) ∗ ((dB).view.loc (VT d L) ↦{fullShare} fd) ∗ ((mB).view.loc (VT d L) ↦{fullShare} fm)
    ∗ ((lB).view.loc (VT d L) ↦{fullShare} locAt L R D' M (625 * c + v)))

/-- The chunk loop's invariant: the star arrays at the task's shares, the chunk buffers at anything, the task's buffer after
    `625 c` groups, the chunk transfers' cells at zero, and what the task owes. -/
def inv2 (q : PosShare TreeShare) (O : CellTallies nD τ sig (HIx 1)) (W : Waits sig (HIx 1)) (c : Nat) (_ : PUnit) : sProp 𝕄 :=
  iprop(Transfers.MayWaits (VT d L) (none : HIx 1) O
    ∗ ((rV).view.loc (VT d L) ↦{q} R) ∗ ((dV).view.loc (VT d L) ↦{q} D') ∗ ((mV).view.loc (VT d L) ↦{q} M)
    ∗ (∃ f, (rB).view.loc (VT d L) ↦{fullShare} f) ∗ (∃ f, (dB).view.loc (VT d L) ↦{fullShare} f) ∗ (∃ f, (mB).view.loc (VT d L) ↦{fullShare} f)
    ∗ ((lB).view.loc (VT d L) ↦{fullShare} locAt L R D' M (625 * c))
    ∗ semVal (VT d L, SemLoc.dma cc0_scoped0.sem) 0 ∗ semVal (VT d L, SemLoc.dma cc0_scoped1.sem) 0 ∗ semVal (VT d L, SemLoc.dma cc0_scoped2.sem) 0
    ∗ ∃ W', ⌜∀ p ∈ W', p ∈ W ∨ p.2 = none⌝ ∗ owes (VT d L) O W')

set_option maxHeartbeats 1000000 in
/-- One trip of the zeroing loop. -/
theorem trip1 (k : Fin k0_t1_loop.trips) :
    inv1 (F := F) d L k.val ⟨⟩ ⊢ wp frame (wpE (defs₀ (F := F)) 𝒱₀ (VT d L) none) Set.univ
      (k0_t1_body L rV (Memref.isWhole_whole _) dV (Memref.isWhole_whole _) mV (Memref.isWhole_whole _) oV (Memref.isWhole_whole _)
        rB (Memref.isWhole_whole _) dB (Memref.isWhole_whole _) mB (Memref.isWhole_whole _) lB (Memref.isWhole_whole _)
        cc0_scoped0 cc0_scoped1 cc0_scoped2 cc0_scoped3 cc0_scoped4 k ⟨⟩) (inv1 (F := F) d L (k.val + 1)) := by
  unfold k0_t1_body inv1
  simp only [Prog.lift, Prog.bind_op, Prog.bind_ret, Prog.pure_eq_ret]
  iintro ⟨%f, %hf, H⟩
  iapply (wp_load 𝒱₀ (VT d L) none Set.univ (m := lB) (S := Finset.univ) (Finset.subset_univ _)) $$ H; iintro H
  iapply (wp_store 𝒱₀ (VT d L) none Set.univ (m := lB) (r := Rect.unit (s := S5888) (k0_off1 k) S16.size (k0_off1_inb k)) (Mk := Finset.univ) (S := Finset.univ) (Finset.subset_univ _)) $$ H
  iintro H
  rw [wp_ret]; imodintro
  iexists _; isplitr
  rotate_left
  · iexact H
  ipureintro
  intro j hj
  have ho : k0_off1 k 0 = 16 * k.val := by rw [k0_off1_eq]; rfl
  have hset : ((lB).access (Rect.unit (s := S5888) (k0_off1 k) S16.size (k0_off1_inb k))).setOn Finset.univ
      = (Rect.unit (s := S5888) (k0_off1 k) S16.size (k0_off1_inb k)).set := View.set_slice_whole cc0_scratch3 _
  by_cases hm : (j : S5888.Idx) ∈ (Rect.unit (s := S5888) (k0_off1 k) S16.size (k0_off1_inb k)).set
  · rw [← hset] at hm
    obtain ⟨x, -, rfl⟩ := Finset.mem_map.mp hm
    exact (View.write_emb_of_mem (v := (lB).access (Rect.unit (s := S5888) (k0_off1 k) S16.size (k0_off1_inb k))) _ _ (Finset.mem_univ x)).trans rfl
  · rw [View.write_of_not_mem]
    · refine hf j ?_
      by_contra hlt
      refine hm ?_
      rw [Rect.mem_set_unit]
      intro a
      have ha : a = 0 := Fin.eq_zero a
      subst ha
      rw [ho]
      show 16 * k.val ≤ (j 0).val ∧ (j 0).val < 16 * k.val + 16
      omega
    · rw [hset]; exact hm

omit [FloatOps F] in
theorem pts_access (f : S5888.Idx → Elt F .f32) :
    (((lB).access (.whole S5888)).loc (VT d L) ↦[((lB).access (.whole S5888)).set]{fullShare} f : sProp 𝕄)
      = ((lB).view.loc (VT d L) ↦{fullShare} f) := by
  rw [show ((lB).access (.whole S5888)).set = Finset.univ from Memref.set_access_whole cc0_scratch3]

omit [FloatOps F] in
theorem pts_stored (f : S5888.Idx → Elt F .f32) (st : (S5888.Idx → Elt F .f32) → S5888.Idx → Elt F .f32) :
    (((lB).access (.whole S5888)).loc (VT d L) ↦[((lB).access (.whole S5888)).set]{fullShare}
        (((lB).access (.whole S5888)).write (Elt F) f (st (((lB).access (.whole S5888)).read (Elt F) f)) Finset.univ) : sProp 𝕄)
      = ((lB).view.loc (VT d L) ↦{fullShare} st f) := by
  rw [pts_access, show ((lB).access (.whole S5888)).read (Elt F) f = f from Memref.read_access_whole (Elt F) cc0_scratch3 f,
    show ((lB).access (.whole S5888)).write (Elt F) f (st f) Finset.univ = st f from Memref.write_access_whole_univ (Elt F) cc0_scratch3 f (st f)]

set_option maxHeartbeats 1000000 in
/-- One trip of the group loop: the three loads, the check, the masked store. -/
theorem trip3 (c : Fin k0_t2_loop.trips) (fr fd fm : S10000.Idx → Elt F .f32)
    (hr : ∀ x, fr x = R (starIx (10000 * c.val + (x 0).val))) (hd : ∀ x, fd x = D' (starIx (10000 * c.val + (x 0).val)))
    (hm : ∀ x, fm x = M (starIx (10000 * c.val + (x 0).val))) (v : Fin k0_t3_loop.trips) :
    inv3 d L R D' M c.val fr fd fm v.val ⟨⟩ ⊢ wp frame (wpE (defs₀ (F := F)) 𝒱₀ (VT d L) none) Set.univ
      (k0_t3_body L rV (Memref.isWhole_whole _) dV (Memref.isWhole_whole _) mV (Memref.isWhole_whole _) oV (Memref.isWhole_whole _)
        rB (Memref.isWhole_whole _) dB (Memref.isWhole_whole _) mB (Memref.isWhole_whole _) lB (Memref.isWhole_whole _)
        cc0_scoped0 cc0_scoped1 cc0_scoped2 cc0_scoped3 cc0_scoped4 v ⟨⟩) (inv3 d L R D' M c.val fr fd fm (v.val + 1)) := by
  unfold k0_t3_body inv3
  simp only [Prog.lift, Prog.bind_op, Prog.bind_ret, Prog.pure_eq_ret]
  iintro ⟨Hr, Hd, Hm, Hl⟩
  iapply (wp_load 𝒱₀ (VT d L) none Set.univ (m := rB) (S := Finset.univ) (Finset.subset_univ _)) $$ Hr; iintro Hr
  iapply (wp_load 𝒱₀ (VT d L) none Set.univ (m := dB) (S := Finset.univ) (Finset.subset_univ _)) $$ Hd; iintro Hd
  iapply (wp_load 𝒱₀ (VT d L) none Set.univ (m := mB) (S := Finset.univ) (Finset.subset_univ _)) $$ Hm; iintro Hm
  rw [show (rB).view.readAt (Elt F) (Rect.unit (s := S10000) (k0_off3 v) S16.size (k0_off3_inb v)).toLoadRect fr = group R (625 * c.val + v.val) from
      funext fun x => chunk_group R c v fr hr x,
    show (dB).view.readAt (Elt F) (Rect.unit (s := S10000) (k0_off3 v) S16.size (k0_off3_inb v)).toLoadRect fd = group D' (625 * c.val + v.val) from
      funext fun x => chunk_group D' c v fd hd x,
    show (mB).view.readAt (Elt F) (Rect.unit (s := S10000) (k0_off3 v) S16.size (k0_off3_inb v)).toLoadRect fm = group M (625 * c.val + v.val) from
      funext fun x => chunk_group M c v fm hm x]
  rw [wp_assume_of _ _ _ _ (chk_all L (group R (625 * c.val + v.val)) (group D' (625 * c.val + v.val)))]
  ihave Hl' := (Entails.of_eq (pts_access (F := F) d L _).symm) $$ Hl
  iapply (SparseCore.wp_vectorStoreIdx 𝒱₀ (VT d L) none Set.univ (base := lB)) $$ Hl'; iintro Hl
  ihave Hl' := (Entails.of_eq (pts_stored (F := F) d L (locAt L R D' M (625 * c.val + v.val)) fun f =>
    storeIdx f ![k0_pay4 L (group R (625 * c.val + v.val)) (group D' (625 * c.val + v.val))] (k0_pay5 (group M (625 * c.val + v.val)))
      (k0_pay3 L (group D' (625 * c.val + v.val))) false (k0_idx1_inb _ (chk_all L (group R (625 * c.val + v.val)) (group D' (625 * c.val + v.val)))))) $$ Hl
  rw [wp_ret]; imodintro
  isplitl [Hr]; · iexact Hr
  isplitl [Hd]; · iexact Hd
  isplitl [Hm]; · iexact Hm
  rw [show 625 * c.val + (v.val + 1) = 625 * c.val + v.val + 1 from rfl, locAt_succ]
  iexact Hl'

/-- Chunk `c` of a star array: its entries from `10000 c` on. -/
def chunk (X : S50000.Idx → Elt F .f32) (c : Fin k0_t2_loop.trips) : S10000.Idx → Elt F .f32 :=
  fun x => X (starIx (10000 * c.val + (x 0).val))

omit [FloatOps F] in
theorem chunk_ix (c : Fin k0_t2_loop.trips) (x : S10000.Idx) :
    (Rect.unit (s := S50000) (k0_off2 c) S10000.size (k0_off2_inb c)).emb x = starIx (10000 * c.val + (x 0).val) := by
  have hc : c.val < 5 := lt_of_lt_of_eq c.isLt (by decide)
  have hx : (x 0).val < 10000 := (x 0).isLt
  funext a
  match a with
  | 0 =>
    apply Fin.ext
    show k0_off2 c 0 + 1 * (x 0).val = (10000 * c.val + (x 0).val) % 50000
    rw [k0_off2_eq]
    show 10000 * c.val + 1 * (x 0).val = _
    omega

omit [FloatOps F] in
/-- What a chunk's copy carries is the chunk. -/
theorem payload_chunk (c : Fin k0_t2_loop.trips) :
    (fun x => R ((Rect.unit (s := S50000) (k0_off2 c) S10000.size (k0_off2_inb c)).emb x)) = chunk R c :=
  funext fun x => congrArg R (chunk_ix c x)

set_option maxHeartbeats 1000000 in
/-- One trip of the chunk loop: three copies in, then the chunk's 625 groups. -/
theorem trip2 (q : PosShare TreeShare) (O : CellTallies nD τ sig (HIx 1)) (W : Waits sig (HIx 1)) (c : Fin k0_t2_loop.trips) :
    inv2 d L R D' M q O W c.val ⟨⟩ ⊢ wp frame (wpE (defs₀ (F := F)) 𝒱₀ (VT d L) none) Set.univ
      (k0_t2_body L rV (Memref.isWhole_whole _) dV (Memref.isWhole_whole _) mV (Memref.isWhole_whole _) oV (Memref.isWhole_whole _)
        rB (Memref.isWhole_whole _) dB (Memref.isWhole_whole _) mB (Memref.isWhole_whole _) lB (Memref.isWhole_whole _)
        cc0_scoped0 cc0_scoped1 cc0_scoped2 cc0_scoped3 cc0_scoped4 c ⟨⟩) (inv2 d L R D' M q O W (c.val + 1)) := by
  unfold k0_t2_body inv2
  iintro ⟨#Hmw, HR, HD, HM, ⟨%f0, H0⟩, ⟨%f1, H1⟩, ⟨%f2, H2⟩, Hl, Hs0, Hs1, Hs2, %W', %hW', HO⟩
  sl_exec (disch := exact View.amount_pos _ _ (show 0 < S10000.numel by decide))
  rw [show View.write (Elt F) (rB).view f0 (trip2.sl.dma0 R c) Finset.univ = chunk R c from
    (View.write_whole_univ cc0_scratch0 f0 _).trans (payload_chunk R c)]
  rw [show View.write (Elt F) (dB).view f1 (trip2.sl.dma0_1 D' c) Finset.univ = chunk D' c from
    (View.write_whole_univ cc0_scratch1 f1 _).trans (payload_chunk D' c)]
  rw [show View.write (Elt F) (mB).view f2 (trip2.sl.dma0_2 M c) Finset.univ = chunk M c from
    (View.write_whole_univ cc0_scratch2 f2 _).trans (payload_chunk M c)]
  sl_for (inv3 d L R D' M c.val (chunk R c) (chunk D' c) (chunk M c)) $$ [H0 H1 H2 Hl]
  case region =>
    intro k _
    exact trip3 d L R D' M c _ _ _ (fun _ => rfl) (fun _ => rfl) (fun _ => rfl) k
  · unfold inv3
    isplitl [H0]; · iexact H0
    isplitl [H1]; · iexact H1
    isplitl [H2]; · iexact H2
    iexact Hl
  iintro %_ HI
  unfold inv3
  icases HI with ⟨H0, H1, H2, Hl⟩
  sl_step
  isplitr; · iexact Hmw
  isplitl [HR]; · iexact HR
  isplitl [HD]; · iexact HD
  isplitl [HM]; · iexact HM
  isplitl [H0]; · iexists _; iexact H0
  isplitl [H1]; · iexists _; iexact H1
  isplitl [H2]; · iexists _; iexact H2
  isplitl [Hl]; · iexact Hl
  isplitl [Hs0]; · iexact Hs0
  isplitl [Hs1]; · iexact Hs1
  isplitl [Hs2]; · iexact Hs2
  iexists _; isplitr
  rotate_left
  · iexact HO
  ipureintro
  intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ### The task -/

/-- What a task is handed besides its own buffers and cells: a share of the three star arrays and its part of the canvas, at `fo`. -/
abbrev taskPts (q : PosShare TreeShare) (R D' M : S50000.Idx → Elt F .f32) (fo : S184448.Idx → Elt F .f32) : sProp 𝕄 :=
  iprop((rLoc d ↦{q} R) ∗ (dLoc d ↦{q} D') ∗ (mLoc d ↦{q} M) ∗ (oLoc d ↦[canvSet (wid L)]{fullShare} fo))

omit [FloatOps F] in
theorem pts_oLast (h : k0_cond1 L = 1#1) (f : S184448.Idx → Elt F .f32) :
    ((oLast L h).view.loc (VT d L) ↦[(oLast L h).view.set]{fullShare} f : sProp 𝕄) = (oLoc d ↦[canvSet (wid L)]{fullShare} f) := by
  rw [set_oLast]
omit [FloatOps F] in
theorem pts_oPart (h : k0_cond2 L = 1#1) (f : S184448.Idx → Elt F .f32) :
    ((oPart L h).view.loc (VT d L) ↦[(oPart L h).view.set]{fullShare} f : sProp 𝕄) = (oLoc d ↦[canvSet (wid L)]{fullShare} f) := by
  rw [set_oPart]

/-- The canvas at an element of task `L`'s part is the task's buffer there. -/
theorem canvas_at (j : S184448.Idx) (n : ℕ) (hn : n < 5888) (ho : ownerOf j = wid L) (hj : (j 0).val = 5760 * wid L + n) :
    canvas R D' M j = locAt L R D' M 3125 (locIx n hn) := by
  unfold canvas
  have e : locIx _ (canvas_ix_lt j) = locIx n hn := by
    unfold locIx; funext a
    match a with
    | 0 => apply Fin.ext; show (j 0).val - 5760 * ownerOf j = n; rw [ho, hj]; omega
  rw [e, ho, coordsOf_wid]

/-- The last task's copy out leaves its part of the canvas at the canvas' final contents. -/
theorem pts_doneLast (h : k0_cond1 L = 1#1) (fo : S184448.Idx → Elt F .f32) (pay : S5888.Idx → Elt F .f32) (hp : pay = locAt L R D' M 3125) :
    ((oLast L h).view.loc (VT d L) ↦[(oLast L h).view.set]{fullShare} (oLast L h).view.writes (Elt F) fo [⟨Rect.whole S5888, pay⟩] : sProp 𝕄)
      = (oLoc d ↦[canvSet (wid L)]{fullShare} canvas R D' M) := by
  rw [← pts_oLast (F := F) d L h]
  refine pointsTo_congr fun i hi => ?_
  obtain ⟨x, -, rfl⟩ := Finset.mem_map.mp hi
  have e := congrFun (View.read_writes_whole (oLast L h).view fo pay) x
  rw [View.read_apply] at e
  refine ((cast_eq _ _).symm.trans e).trans ?_
  have hx : (x 0).val < 5888 := (x 0).isLt
  have ho : k0_off4 L 0 = 5760 * wid L := by rw [k0_off4_eq]; show 92160 * _ + 5760 * _ = _; unfold wid; omega
  rw [canvas_at L R D' M _ (x 0).val hx ((mem_canvSet _ _).mp (by rw [← set_oLast L h]; exact hi))
    (by show k0_off4 L 0 + 1 * (x 0).val = _; rw [ho]; omega), hp]
  refine congrArg (locAt L R D' M 3125) ?_
  funext a
  match a with
  | 0 => rfl

/-- Any other task's copy out likewise. -/
theorem pts_donePart (h : k0_cond2 L = 1#1) (fo : S184448.Idx → Elt F .f32) (pay : S5760.Idx → Elt F .f32)
    (hp : pay = fun x => locAt L R D' M 3125 ((Rect.unit (s := S5888) ![0] S5760.size inb_S5888_S5760_0).emb x)) :
    ((oPart L h).view.loc (VT d L) ↦[(oPart L h).view.set]{fullShare} (oPart L h).view.writes (Elt F) fo [⟨Rect.whole S5760, pay⟩] : sProp 𝕄)
      = (oLoc d ↦[canvSet (wid L)]{fullShare} canvas R D' M) := by
  rw [← pts_oPart (F := F) d L h]
  refine pointsTo_congr fun i hi => ?_
  obtain ⟨x, -, rfl⟩ := Finset.mem_map.mp hi
  have e := congrFun (View.read_writes_whole (oPart L h).view fo pay) x
  rw [View.read_apply] at e
  refine ((cast_eq _ _).symm.trans e).trans ?_
  have hx : (x 0).val < 5760 := (x 0).isLt
  have ho : k0_off5 L 0 = 5760 * wid L := by rw [k0_off5_eq]; show 92160 * _ + 5760 * _ = _; unfold wid; omega
  rw [canvas_at L R D' M _ (x 0).val (by omega) ((mem_canvSet _ _).mp (by rw [← set_oPart L h]; exact hi))
    (by show k0_off5 L 0 + 1 * (x 0).val = _; rw [ho]; omega), hp]
  refine congrArg (locAt L R D' M 3125) ?_
  funext a
  match a with
  | 0 => apply Fin.ext; show 0 + 1 * (x 0).val = (x 0).val; omega

set_option maxHeartbeats 1000000 in
/-- The zeroing and the stars: from the star arrays and the scratch buffers and the task's part
    of the canvas to that part at its final contents. -/
theorem tile_run (q : PosShare TreeShare) (O : CellTallies nD τ sig (HIx 1)) (W : Waits sig (HIx 1)) (fo : S184448.Idx → Elt F .f32)
    (f0 : Buf (Elt F) ((VT d L).loc cc0_scratch0)) (f1 : Buf (Elt F) ((VT d L).loc cc0_scratch1))
    (f2 : Buf (Elt F) ((VT d L).loc cc0_scratch2)) (f3 : Buf (Elt F) ((VT d L).loc cc0_scratch3)) :
    iprop(Transfers.MayWaits (VT d L) (default : HIx 1) O ∗ taskPts d L q R D' M fo
        ∗ ((rB).view.loc (VT d L) ↦{fullShare} f0) ∗ ((dB).view.loc (VT d L) ↦{fullShare} f1)
        ∗ ((mB).view.loc (VT d L) ↦{fullShare} f2) ∗ ((lB).view.loc (VT d L) ↦{fullShare} f3)
        ∗ cells0 d L ∗ owes (VT d L) O W)
      ⊢ wp frame (wpE (defs₀ (F := F)) 𝒱₀ (VT d L) none) Set.univ
          (cc0_k L rV (Memref.isWhole_whole _) dV (Memref.isWhole_whole _) mV (Memref.isWhole_whole _) oV (Memref.isWhole_whole _)
            rB (Memref.isWhole_whole _) dB (Memref.isWhole_whole _) mB (Memref.isWhole_whole _) lB (Memref.isWhole_whole _)
            cc0_scoped0 cc0_scoped1 cc0_scoped2 cc0_scoped3 cc0_scoped4)
          fun _ => iprop(taskPts d L q R D' M (canvas R D' M)
            ∗ (∃ f, (rB).view.loc (VT d L) ↦{fullShare} f) ∗ (∃ f, (dB).view.loc (VT d L) ↦{fullShare} f)
            ∗ (∃ f, (mB).view.loc (VT d L) ↦{fullShare} f) ∗ (∃ f, (lB).view.loc (VT d L) ↦{fullShare} f)
            ∗ cells0 d L ∗ ∃ W', ⌜∀ p ∈ W', p ∈ W ∨ p.2 = none⌝ ∗ owes (VT d L) O W') := by
  simp only [cc0_k_eq_skeleton]; unfold cc0_k_skel
  iintro ⟨#Hmw, ⟨HR, HD, HM, Hc⟩, H0, H1, H2, Hl, ⟨Hs0, Hs1, Hs2, Hs3, Hs4⟩, HO⟩
  sl_for (inv1 (F := F) d L) $$ [Hl]
  case region => intro k _; exact trip1 d L k
  · unfold inv1; iexists _; isplitr
    rotate_left
    · iexact Hl
    · ipureintro; intro j hj; omega
  iintro %_ HI
  unfold inv1
  icases HI with ⟨%fz, %hz, Hl⟩
  have hz' : fz = locAt L R D' M 0 := (locAt_zero L R D' M).symm ▸ funext fun j => hz j (by
    have : (j 0).val < 5888 := (j 0).isLt
    have ht : Scf.trips k0_t1_loop.lb k0_t1_loop.ub k0_t1_loop.st = 368 := by decide
    rw [ht]; omega)
  subst hz'
  sl_for (inv2 d L R D' M q O W) $$ [HR HD HM H0 H1 H2 Hl Hs0 Hs1 Hs2 HO]
  case region => intro k _; exact trip2 d L R D' M q O W k
  · unfold inv2
    isplitr; · iexact Hmw
    isplitl [HR]; · iexact HR
    isplitl [HD]; · iexact HD
    isplitl [HM]; · iexact HM
    isplitl [H0]; · iexists _; iexact H0
    isplitl [H1]; · iexists _; iexact H1
    isplitl [H2]; · iexists _; iexact H2
    isplitl [Hl]; · iexact Hl
    isplitl [Hs0]; · iexact Hs0
    isplitl [Hs1]; · iexact Hs1
    isplitl [Hs2]; · iexact Hs2
    iexists _; isplitr
    rotate_left
    · iexact HO
    · ipureintro; exact fun p hp => .inl hp
  iintro %_ HI
  unfold inv2
  icases HI with ⟨-, HR, HD, HM, H0, H1, H2, Hl, Hs0, Hs1, Hs2, %W', %hW', HO⟩
  have h3125 : 625 * k0_t2_loop.trips = 3125 := by rw [show k0_t2_loop.trips = 5 by decide]
  rw [h3125]
  rcases Classical.em (k0_cond1 L = 1#1) with h1 | h1
  · have h2 : ¬ k0_cond2 L = 1#1 := fun h => (cond2_iff L).mp h ((cond1_iff L).mp h1)
    ihave Hc' := (Entails.of_eq (pts_oLast (F := F) d L h1 fo).symm) $$ Hc
    sl_exec (disch := first | sl_exact h1 | sl_exact h2 | exact View.amount_pos _ _ (show 0 < S5888.numel by decide))
    sl_step
    isplitl [HR HD HM Hc']
    · isplitl [HR]; · iexact HR
      isplitl [HD]; · iexact HD
      isplitl [HM]; · iexact HM
      iapply (Entails.of_eq (pts_doneLast (F := F) d L R D' M h1 fo _ rfl)); iexact Hc'
    isplitl [H0]; · iexact H0
    isplitl [H1]; · iexact H1
    isplitl [H2]; · iexact H2
    isplitl [Hl]; · iexists _; iexact Hl
    isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    iexists _; isplitr
    rotate_left
    · iexact HO
    ipureintro
    intro p hp
    rcases Finset.mem_insert.mp hp with hp | hp; · exact .inr (hp ▸ rfl)
    exact hW' p hp
  · have h2 : k0_cond2 L = 1#1 := (cond2_iff L).mpr fun h => h1 ((cond1_iff L).mpr h)
    ihave Hc' := (Entails.of_eq (pts_oPart (F := F) d L h2 fo).symm) $$ Hc
    sl_exec (disch := first | sl_exact h1 | sl_exact h2 | exact View.amount_pos _ _ (show 0 < S5760.numel by decide))
    sl_step
    isplitl [HR HD HM Hc']
    · isplitl [HR]; · iexact HR
      isplitl [HD]; · iexact HD
      isplitl [HM]; · iexact HM
      iapply (Entails.of_eq (pts_donePart (F := F) d L R D' M h2 fo _ rfl)); iexact Hc'
    isplitl [H0]; · iexact H0
    isplitl [H1]; · iexact H1
    isplitl [H2]; · iexact H2
    isplitl [Hl]; · iexists _; iexact Hl
    isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    iexists _; isplitr
    rotate_left
    · iexact HO
    ipureintro
    intro p hp
    rcases Finset.mem_insert.mp hp with hp | hp; · exact .inr (hp ▸ rfl)
    exact hW' p hp

end Tile

end Cert.Proof.KernelIdealRun

end
-- ==== Proof.KernelIdealLaunch.lean ====
/-
  The kernel's launch on the SparseCores: what each of the 32 vector subcores is handed (a read share of the three star
  arrays and its own part of the canvas) and what it hands back (the same, its part of the canvas filled), the task
  theorem in the launch's spelling, and the split of the TensorCore's arrays into those parts.
-/
module

public import proofs.«01_k».proof.Proof.KernelIdealTile

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rV" => (Memref.whole Cert.KernelIdeal.main_v0_scv : Memref Cert.KernelIdeal.sig Kind.scVector Space.hbm Cert.KernelIdeal.S50000 EltTy.f32)
local notation "dV" => (Memref.whole Cert.KernelIdeal.main_v1_scv : Memref Cert.KernelIdeal.sig Kind.scVector Space.hbm Cert.KernelIdeal.S50000 EltTy.f32)
local notation "mV" => (Memref.whole Cert.KernelIdeal.main_arg2_scv : Memref Cert.KernelIdeal.sig Kind.scVector Space.hbm Cert.KernelIdeal.S50000 EltTy.f32)
local notation "oV" => (Memref.whole Cert.KernelIdeal.main_v2_scv : Memref Cert.KernelIdeal.sig Kind.scVector Space.hbm Cert.KernelIdeal.S184448 EltTy.f32)
local notation "rB" => (Memref.whole Cert.KernelIdeal.cc0_scratch0 : Memref Cert.KernelIdeal.sig Kind.scVector Space.vmem Cert.KernelIdeal.S10000 EltTy.f32)
local notation "dB" => (Memref.whole Cert.KernelIdeal.cc0_scratch1 : Memref Cert.KernelIdeal.sig Kind.scVector Space.vmem Cert.KernelIdeal.S10000 EltTy.f32)
local notation "mB" => (Memref.whole Cert.KernelIdeal.cc0_scratch2 : Memref Cert.KernelIdeal.sig Kind.scVector Space.vmem Cert.KernelIdeal.S10000 EltTy.f32)
local notation "lB" => (Memref.whole Cert.KernelIdeal.cc0_scratch3 : Memref Cert.KernelIdeal.sig Kind.scVector Space.vmem Cert.KernelIdeal.S5888 EltTy.f32)

variable [FloatOps F]

/-! ## The values @main hands the call -/

section Vals

variable (m : (ℓ : Loc nD τ sig) → Buf (Elt F) ℓ)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev opRa : HloOp τ sig (Elt F) := StableHlo.reshape main_arg0 main_v0 (rfl : (.f32 : EltTy) = .f32) shapeCasts_S50000x1_S50000
abbrev opDec : HloOp τ sig (Elt F) := StableHlo.reshape main_arg1 main_v1 (rfl : (.f32 : EltTy) = .f32) shapeCasts_S50000x1_S50000
abbrev opCanvas : HloOp τ sig (Elt F) := StableHlo.reshape main_v2 main_v3 (rfl : (.f32 : EltTy) = .f32) shapeCasts_S184448_S1441x128

/-- The launch contents; after the first reshape; after the second. -/
def V0 (d : Dev nD) : Valuation τ sig (Elt F) := fun b => m (d, b)
def V1 (d : Dev nD) : Valuation τ sig (Elt F) := (opRa (F := F)).result (V0 m d)
def V2 (d : Dev nD) : Valuation τ sig (Elt F) := (opDec (F := F)).result (V1 m d)

/-- The stars' right ascensions, declinations and magnitudes as the call finds them. -/
def ras (d : Dev nD) : S50000.Idx → Elt F .f32 := V2 m d v0'
def decs (d : Dev nD) : S50000.Idx → Elt F .f32 := V2 m d v1'
def mags (d : Dev nD) : S50000.Idx → Elt F .f32 := V2 m d a2'
/-- What the canvas holds when the call has ended. -/
def canvasOf (d : Dev nD) : S184448.Idx → Elt F .f32 := canvas (ras m d) (decs m d) (mags m d)

end Vals

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

theorem wid_coordsV (c : Fin 2) (s : Fin 16) : wid (coordsV c s) = 16 * c.val + s.val := rfl

variable (m : (ℓ : Loc nD τ sig) → Buf (Elt F) ℓ)

/-- Subcore `L`'s part of the arrays, the canvas at `fo`. -/
def part (d : Dev nD) (L : grid0.Coords) (fo : Buf (Elt F) (oLoc d)) : sProp 𝕄 :=
  taskPts d L (Transfers.shareTokN fullShare (wid L)) (ras m d) (decs m d) (mags m d) fo

instance part_storable (d : Dev nD) (L : grid0.Coords) (fo : Buf (Elt F) (oLoc d)) : BI.Storable (upEmb : UEmb _ 𝕄) (part m d L fo) := by
  unfold part taskPts; infer_instance

/-- A SparseCore's sixteen parts. -/
def coreParts (d : Dev nD) (c : Fin 2) (fo : Buf (Elt F) (oLoc d)) : sProp 𝕄 :=
  bigSep Finset.univ fun i : Fin 16 => part m d (coordsV c i) fo

instance coreParts_storable (d : Dev nD) (c : Fin 2) (fo : Buf (Elt F) (oLoc d)) : BI.Storable (upEmb : UEmb _ 𝕄) (coreParts m d c fo) := by
  unfold coreParts; haveI := fun i : Fin 16 => part_storable m d (coordsV c i) fo; exact BI.Storable.bigSep _ _ _

def P : (K (F := F)).Pay (nD := nD) (Val := Elt F) (Name := ℕ) (U := UU) where
  st q d c := match q with | 0 => coreParts m d c (m (oLoc d))
  dn q d c := match q with | 0 => coreParts m d c (canvasOf m d)
  go q d c i := match q with | 0 => part m d (coordsV c i) (m (oLoc d))
  td q d c i := match q with | 0 => part m d (coordsV c i) (canvasOf m d)
  x _ _ := iprop(emp)

instance P_storable : (P m).IsStorable where
  st q d c := match q with | 0 => coreParts_storable m d c _
  dn q d c := match q with | 0 => coreParts_storable m d c _
  go q d c i := match q with | 0 => part_storable m d (coordsV c i) _
  td q d c i := match q with | 0 => part_storable m d (coordsV c i) _

/-! ## The task -/

section Tile

variable (d : Dev nD) (L : grid0.Coords)

/-- The task on vector subcore `L` of device `d`, from its part and its scoped buffers and cells to the same with the
    canvas filled. -/
theorem tile_body (O : CellTallies nD τ sig (HIx 1)) (W : Waits sig (HIx 1)) (hO : ∀ g, O g none = 0) :
    iprop(levAts (K (F := F)).L (K (F := F)).lev ∗ emp ∗ part m d L (m (oLoc d))
        ∗ scopedBufs (VT d L) ∗ scopedSems0 (VT d L) ∗ owes (VT d L) O W)
      ⊢ wp frame (wpE (defs₀ (F := F)) 𝒱₀ (VT d L) none) Set.univ
          (cc0_k L rV (Memref.isWhole_whole _) dV (Memref.isWhole_whole _) mV (Memref.isWhole_whole _) oV (Memref.isWhole_whole _)
            rB (Memref.isWhole_whole _) dB (Memref.isWhole_whole _) mB (Memref.isWhole_whole _) lB (Memref.isWhole_whole _)
            cc0_scoped0 cc0_scoped1 cc0_scoped2 cc0_scoped3 cc0_scoped4)
          fun _ => iprop(part m d L (canvasOf m d) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L), ownSems0_V, ownBufs_V]
  unfold part canvasOf
  iintro ⟨#Hlv, -, Hp, ⟨⟨⟨%f0, H0⟩, ⟨%f1, H1⟩, ⟨%f2, H2⟩, ⟨%f3, H3⟩⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [Hp H0 H1 H2 H3 HC HO]
  · iapply (tile_run d L (ras m d) (decs m d) (mags m d) (Transfers.shareTokN fullShare (wid L)) O W (m (oLoc d)) f0 f1 f2 f3)
    isplitr; · iexact Hmw
    isplitl [Hp]; · iexact Hp
    isplitl [H0]; · iexact H0
    isplitl [H1]; · iexact H1
    isplitl [H2]; · iexact H2
    isplitl [H3]; · iexact H3
    isplitl [HC]; · iexact HC
    iexact HO
  iintro %_ ⟨Hp, H0, H1, H2, H3, HC, %W', %hW', HO⟩
  isplitl [Hp]; · iexact Hp
  isplitl [H0 H1 H2 H3 Hbufs]
  · isplitl [H0 H1 H2 H3]
    · isplitl [H0]; · iexact H0
      isplitl [H1]; · iexact H1
      isplitl [H2]; · iexact H2
      iexact H3
    iexact Hbufs
  isplitl [HC Hsems]
  · isplitl [HC]; · iexact HC
    iexact Hsems
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0_k (coordsV c s)
          rV (Memref.isWhole_whole _) dV (Memref.isWhole_whole _) mV (Memref.isWhole_whole _) oV (Memref.isWhole_whole _)
          rB (Memref.isWhole_whole _) dB (Memref.isWhole_whole _) mB (Memref.isWhole_whole _) lB (Memref.isWhole_whole _)
          cc0_scoped0 cc0_scoped1 cc0_scoped2 cc0_scoped3 cc0_scoped4) ⟨⟩ c s := rfl

/-- Every task of the call does what the handshakes say. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) O W hO

end Tile

/-! ## The split of the call's arrays among the tasks -/

/-- A SparseCore's sequencer deals its sixteen parts and collects them. -/
theorem vecSplit : (K (F := F)).VecSplit' (P m) 0 := by
  intro d c
  show coreParts m d c (m (oLoc d)) ⊢ |={Set.univ}=> iprop((bigSep (Finset.univ : Finset (Fin 16)) fun i => part m d (coordsV c i) (m (oLoc d)))
    ∗ ((bigSep (Finset.univ : Finset (Fin 16)) fun i => part m d (coordsV c i) (canvasOf m d)) -∗ coreParts m d c (canvasOf m d)))
  unfold coreParts
  iintro H
  imodintro
  isplitl [H]; · iexact H
  iintro H; iexact H

/-- A separating conjunction over the 32 tasks, by SparseCore and subcore. -/
theorem bigSep_tasks (f : ℕ → sProp 𝕄) :
    (bigSep (Finset.range 32) f) = bigSep (Finset.univ : Finset (Fin 2)) fun c => bigSep (Finset.univ : Finset (Fin 16)) fun i => f (16 * c.val + i.val) := by
  rw [← BI.bigSep_univ_prod (fun p : Fin 2 × Fin 16 => f (16 * p.1.val + p.2.val))]
  have hinj : Function.Injective (fun p : Fin 2 × Fin 16 => 16 * p.1.val + p.2.val) := fun p p' h => by
    have h1 := p.2.isLt; have h2 := p'.2.isLt; dsimp only at h
    exact Prod.ext (Fin.ext (by omega)) (Fin.ext (by omega))
  rw [show Finset.range 32 = (Finset.univ : Finset (Fin 2 × Fin 16)).map ⟨_, hinj⟩ by clear f; revert hinj; decide, bigSep_map]
  rfl

theorem canv_disjoint : ∀ i ∈ Finset.range 32, ∀ j ∈ Finset.range 32, i ≠ j → Disjoint (canvSet i) (canvSet j) := by
  intro i _ j _ h
  rw [Finset.disjoint_left]
  intro x hx hy
  exact h (((mem_canvSet _ _).1 hx).symm.trans ((mem_canvSet _ _).1 hy))

theorem canv_cover : (Finset.range 32).biUnion canvSet = Finset.univ := by
  refine Finset.eq_univ_of_forall fun x => Finset.mem_biUnion.mpr ⟨min ((x 0).val / 5760) 31, ?_, (mem_canvSet _ _).2 rfl⟩
  exact Finset.mem_range.mpr (by omega)

theorem canv_split (d : Dev nD) (fo : Buf (Elt F) (oLoc d)) :
    (oLoc d ↦{fullShare} fo : sProp 𝕄) = bigSep (Finset.range 32) fun w => oLoc d ↦[canvSet w]{fullShare} fo := by
  rw [← pointsTo_biUnion (Finset.range 32) (ℓ := oLoc d) canvSet canv_disjoint, canv_cover]

/-- What the TensorCore keeps of the star arrays while the tasks run. -/
def kept (d : Dev nD) : sProp 𝕄 :=
  iprop((rLoc d ↦{Transfers.shareDrop fullShare 32} ras m d) ∗ (dLoc d ↦{Transfers.shareDrop fullShare 32} decs m d)
    ∗ (mLoc d ↦{Transfers.shareDrop fullShare 32} mags m d))

theorem parts_eq (d : Dev nD) (fo : Buf (Elt F) (oLoc d)) :
    (bigSep (Finset.univ : Finset (Fin 2)) fun c => coreParts m d c fo)
      = iprop((bigSep (Finset.range 32) fun w => rLoc d ↦{Transfers.shareTokN fullShare w} ras m d)
          ∗ (bigSep (Finset.range 32) fun w => dLoc d ↦{Transfers.shareTokN fullShare w} decs m d)
          ∗ (bigSep (Finset.range 32) fun w => mLoc d ↦{Transfers.shareTokN fullShare w} mags m d)
          ∗ (bigSep (Finset.range 32) fun w => oLoc d ↦[canvSet w]{fullShare} fo)) := by
  rw [← bigSep_sep', ← bigSep_sep', ← bigSep_sep', bigSep_tasks]
  rfl

/-- The four arrays whole are the parts of all 32 tasks and what is kept. -/
theorem split_all (d : Dev nD) (fo : Buf (Elt F) (oLoc d)) :
    iprop((rLoc d ↦{fullShare} ras m d) ∗ (dLoc d ↦{fullShare} decs m d) ∗ (mLoc d ↦{fullShare} mags m d) ∗ (oLoc d ↦{fullShare} fo))
      ⊢ iprop(kept m d ∗ bigSep (Finset.univ : Finset (Fin 2)) fun c => coreParts m d c fo) := by
  rw [parts_eq, canv_split]
  unfold kept
  iintro ⟨Hr, Hd, Hm, Ho⟩
  ihave Hr := (Transfers.pointsTo_toks_range (ℓ := rLoc d) (S := Finset.univ) (f := ras m d) fullShare 32).1 $$ Hr
  ihave Hd := (Transfers.pointsTo_toks_range (ℓ := dLoc d) (S := Finset.univ) (f := decs m d) fullShare 32).1 $$ Hd
  ihave Hm := (Transfers.pointsTo_toks_range (ℓ := mLoc d) (S := Finset.univ) (f := mags m d) fullShare 32).1 $$ Hm
  icases Hr with ⟨Hr, Hrs⟩
  icases Hd with ⟨Hd, Hds⟩
  icases Hm with ⟨Hm, Hms⟩
  isplitl [Hr Hd Hm]
  · isplitl [Hr]; · iexact Hr
    isplitl [Hd] <;> iassumption
  isplitl [Hrs]; · iexact Hrs
  isplitl [Hds]; · iexact Hds
  isplitl [Hms]; · iexact Hms
  iexact Ho

theorem join_all (d : Dev nD) (fo : Buf (Elt F) (oLoc d)) :
    iprop(kept m d ∗ bigSep (Finset.univ : Finset (Fin 2)) fun c => coreParts m d c fo)
      ⊢ iprop((rLoc d ↦{fullShare} ras m d) ∗ (dLoc d ↦{fullShare} decs m d) ∗ (mLoc d ↦{fullShare} mags m d) ∗ (oLoc d ↦{fullShare} fo)) := by
  rw [parts_eq, canv_split]
  unfold kept
  iintro ⟨⟨Hr, Hd, Hm⟩, Hrs, Hds, Hms, Ho⟩
  isplitl [Hr Hrs]
  · iapply (Transfers.pointsTo_toks_range (ℓ := rLoc d) (S := Finset.univ) (f := ras m d) fullShare 32).2
    isplitl [Hr] <;> iassumption
  isplitl [Hd Hds]
  · iapply (Transfers.pointsTo_toks_range (ℓ := dLoc d) (S := Finset.univ) (f := decs m d) fullShare 32).2
    isplitl [Hd] <;> iassumption
  isplitl [Hm Hms]
  · iapply (Transfers.pointsTo_toks_range (ℓ := mLoc d) (S := Finset.univ) (f := mags m d) fullShare 32).2
    isplitl [Hm] <;> iassumption
  iexact Ho

end Cert.Proof.KernelIdealRun

end
-- ==== Proof.KernelIdealRegion.lean ====
/-
  The TensorCore kernel that widens the canvas: twelve blocks of 128 rows, the last one overhanging the array. Each
  block of the result is zero but for its first 128 columns, which are the canvas's block. Here: what the body leaves,
  the pipeline's proof data, the result array in closed form, and the region as @main enters it.
-/
module

public import proofs.«01_k».proof.Proof.KernelIdealLaunch
public import proofs.«01_k».proof.Proof.Gen.KernelIdeal.Points
public import Idealize.ShloMosaic.Lib.Pipeline.ValueKit.Geometry
public import Idealize.ShloMosaic.Lib.Pipeline.Regions
public import Idealize.ShloMosaic.Lib.WritesUnit
public import Idealize.ShloMosaic.Lib.VecWindow

@[expose] public section

noncomputable section

namespace Cert.Proof.KernelIdealRun

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose cellOf)

variable {F : FTy → Type} [FloatOps F]

local notation "𝕄" => MT nD τ sig (HIx 1) (Elt F) ℕ UU ℕ

/-! ## What the body leaves -/

/-- Row `r`, column `c` of a block, and of the canvas. -/
def blkIx (r c : Fin 128) : S128x128.Idx := fun | 0 => r | 1 => c | ⟨_ + 2, h⟩ => absurd h (Nat.not_lt.2 (Nat.le_add_left _ _))
def cnvIx (r : Fin 1441) (c : Fin 128) : S1441x128.Idx := fun | 0 => r | 1 => c | ⟨_ + 2, h⟩ => absurd h (Nat.not_lt.2 (Nat.le_add_left _ _))

/-- A block of 128 columns widened to 2880: zeros to the right of it. -/
def wideBlk (x : S128x128.Idx → Elt F .f32) : S128x2880.Idx → Elt F .f32 := fun i =>
  if h : (i 1).val < 128 then x (blkIx (i 0) ⟨(i 1).val, h⟩) else Scalar.ofBits .f32 0x00000000#32

/-- The same of the whole array: the canvas in the first 128 columns, zeros in the others. -/
def wide (x : S1441x128.Idx → Elt F .f32) : S1441x2880.Idx → Elt F .f32 := fun i =>
  if h : (i 1).val < 128 then x (cnvIx (i 0) ⟨(i 1).val, h⟩) else Scalar.ofBits .f32 0x00000000#32

/-- What the body writes over the second buffer, newest first: the first's block at the top left, zeros everywhere. -/
def bodyWrites (x : S128x128.Idx → Elt F .f32) : List (View.Piece (Elt F) S128x2880 .f32) :=
  [⟨Rect.unit (s := S128x2880) ![0, 0] S128x128.size inb_S128x2880_S128x128_0_0, k1_pay2 x⟩,
   ⟨Rect.unit (s := S128x2880) ![0, 0] S128x2880.size inb_S128x2880_S128x2880_0_0, k1_pay1⟩]

theorem bodyWrites_read (M2 : Memref sig .tc .vmem S128x2880 .f32) (f : M2.view.ty.Contents (Elt F)) (x : S128x128.Idx → Elt F .f32) :
    M2.view.read (Elt F) (M2.view.writes (Elt F) f (bodyWrites x)) = wideBlk x := by
  funext y
  unfold bodyWrites wideBlk
  refine (View.read_writes_cons_unit (off' := ![0, 0]) M2.view f _ _ _ y rfl).trans ?_
  by_cases h : (y 1).val < 128
  · rw [dif_pos h, dif_pos (by
      intro a
      fin_cases a
      · exact ⟨Nat.zero_le _, by have := (y 0).isLt; simpa using this⟩
      · exact ⟨Nat.zero_le _, by simpa using h⟩)]
    unfold k1_pay2
    dsimp only
    rw [shapeCast_self]
    refine congrArg x (funext fun a => ?_)
    fin_cases a <;> rfl
  · rw [dif_neg h, dif_neg (fun hh => h (by have := (hh 1).2; simpa using this))]
    refine (View.read_writes_cons_unit (off' := ![0, 0]) M2.view f _ _ _ y rfl).trans ?_
    rw [dif_pos (by
      intro a
      fin_cases a
      · exact ⟨Nat.zero_le _, by have := (y 0).isLt; simpa using this⟩
      · exact ⟨Nat.zero_le _, by have := (y 1).isLt; simpa using this⟩)]
    rfl

/-- The body at any two whole buffers: the first is left as it was, the second reads the first's block widened. -/
theorem body_run (c : Dev nD) (i : grid1.Coords) (M1 : Memref sig .tc .vmem S128x128 .f32) (h1 : M1.IsWhole)
    (M2 : Memref sig .tc .vmem S128x2880 .f32) (h2 : M2.IsWhole)
    (f1 : Buf (Elt F) (M1.view.loc (c : Thread nD τ))) (f2 : Buf (Elt F) (M2.view.loc (c : Thread nD τ)))
    (E : Set ℕ) (Q : PUnit → sProp 𝕄) :
    iprop((M1.view.loc (c : Thread nD τ) ↦{fullShare} f1) ∗ (M2.view.loc (c : Thread nD τ) ↦{fullShare} f2)
        ∗ (iprop((M1.view.loc (c : Thread nD τ) ↦{fullShare} f1)
            ∗ (M2.view.loc (c : Thread nD τ) ↦{fullShare} M2.view.writes (Elt F) M2.view.junk (bodyWrites (M1.view.read (Elt F) f1)))) -∗ Q ⟨⟩))
      ⊢ wp frame (wpE (defs₀ (F := F)) 𝒱₀ (c : Thread nD τ) none) E (cc1_body i M1 h1 M2 h2) Q := by
  rw [cc1_body_eq_skeleton]
  unfold cc1_body_skel
  iintro ⟨H1, H2, Hk⟩
  sl_exec!
  sl_step
  iapply Hk
  isplitl [H1]; · iexact H1
  rw [show bodyWrites (M1.view.read (Elt F) f1) = bodyWrites (M1.view.readAt (Elt F) (Rect.unit (s := S128x128) ![0, 0] S128x128.size inb_S128x128_S128x128_0_0).toLoadRect f1)
    from congrArg bodyWrites (View.readAt_full M1.view f1 _).symm]
  iexact H2

/-! ## The proof data -/

variable (g : (d : Dev nD) → Buf (Elt F) ((d.tc : Thread nD τ).loc main_v3)) (o : (d : Dev nD) → Buf (Elt F) ((d.tc : Thread nD τ).loc main_v4))
  (B : Dev nD → Set (SemLoc sig × HIx 1))

/-- The canvas's block at point `t`, as the fetch reads it (the part inside the array). -/
def gblk (d : Dev nD) (t : Fin cfg1.N) : (win1_0.xblock (grid1.coords t)).Idx → Elt F .f32 :=
  (win1_0.blk t).view.read (Elt F) (g d)

/-- The staging buffer with that block in it, zeros past the array's end (nothing reads those). -/
def gstg (d : Dev nD) (t : Fin cfg1.N) : S128x128.Idx → Elt F .f32 :=
  win1_0.fill (grid1.coords t) (fun _ => Scalar.ofBits .f32 0x00000000#32) (gblk g d t)

/-- The pipeline's proof data on device `d`: the arrays as the region finds them, after the body the canvas's block and
    the same widened, no invariant, nothing owed, full shares; `B` bounds the waits recorded before the region. -/
def dat (d : Dev nD) : Dat τ (Elt F) (HIx 1) ℕ UU ℕ cfg1 d where
  A w := match w with
    | ⟨0, _⟩ => g d
    | ⟨1, _⟩ => o d
  after w t := match w with
    | ⟨0, _⟩ => gstg g d t
    | ⟨1, _⟩ => wideBlk (gstg g d t)
  Φ _ := iprop(emp)
  q _ := fullShare
  owed _ := 0
  recorded _ := B d

def pdats (adm : (p : Fin 1) → (pcfgs (F := F) p).Adm) :
    (p : Fin 1) → (d : Dev nD) → Dat τ (Elt F) (HIx 1) ℕ UU ℕ (Pipeline.pin (pcfgs (F := F)) adm p) d
  | ⟨0, _⟩ => fun d => dat g o B d

theorem before_in (d : Dev nD) (t : Fin cfg1.N) (x) :
    (dat g o B d).before (0 : Fin 2) t x = win1_0.fill (grid1.coords t) x (gblk g d t) := by
  unfold Dat.before; rw [if_pos (fetch1_0 t)]; rfl

/-- The body at the slots a point uses, the staging buffers as the pipeline's library owns them. -/
theorem sound_body (d : Dev nD) (E : Set ℕ) (i : grid1.Coords) (s0 s1 : Fin 2)
    (X : S128x128.Idx → Elt F .f32) (Y : S128x2880.Idx → Elt F .f32) (K : PUnit → sProp 𝕄) :
    iprop((owns (d : Thread nD τ) (stage1_0 s0) fullShare X ∗ owns (d : Thread nD τ) (stage1_1 s1) fullShare Y)
        ∗ (iprop(owns (d : Thread nD τ) (stage1_0 s0) fullShare X ∗ owns (d : Thread nD τ) (stage1_1 s1) fullShare (wideBlk X)) -∗ K ⟨⟩))
      ⊢ wp frame (wpE (defs₀ (F := F)) 𝒱₀ (d : Thread nD τ) none) E
          (cc1_body i (stage1_0 s0) (hstage1_0 s0) (stage1_1 s1) (hstage1_1 s1)) K := by
  have e0 : (stage1_0 s0).view.set = Finset.univ := (hstage1_0 s0).set_eq_univ
  have e1 : (stage1_1 s1).view.set = Finset.univ := (hstage1_1 s1).set_eq_univ
  unfold owns
  rw [e0, e1]
  iintro ⟨⟨⟨%f0, %hf0, H0⟩, ⟨%f1, -, H1⟩⟩, Hk⟩
  iapply (body_run d i (stage1_0 s0) (hstage1_0 s0) (stage1_1 s1) (hstage1_1 s1) f0 f1 E K)
  isplitl [H0]; · iexact H0
  isplitl [H1]; · iexact H1
  iintro ⟨H0, H1⟩
  iapply Hk
  isplitl [H0]
  · iexists f0; isplitr; · ipureintro; exact hf0
    iexact H0
  · iexists ((stage1_1 s1).view.writes (Elt F) (stage1_1 s1).view.junk (bodyWrites ((stage1_0 s0).view.read (Elt F) f0)))
    isplitr; · ipureintro; rw [bodyWrites_read, hf0]
    iexact H1

theorem xsize_row (i : grid1.Coords) : win1_0.xsize i 0 = win1_1.xsize i 0 := rfl
theorem xsize_col (i : grid1.Coords) : win1_0.xsize i 1 = 128 := rfl

/-- An index of the result's block in its first 128 columns, as an index of the canvas's block. -/
def leftIx (j : S128x2880.Idx) (h : (j 1).val < 128) : S128x128.Idx := blkIx (j 0) ⟨(j 1).val, h⟩

/-- If the result's index lies inside the array, the canvas's does: the two blocks are cut at the same row. -/
theorem leftIx_lt (i : grid1.Coords) (j : (win1_1.xblock i).Idx) (h : ((win1_1.xinj i j) 1).val < 128) (a : Fin 2) :
    (leftIx (win1_1.xinj i j) h a).val < win1_0.xsize i a := by
  rcases (show a = 0 ∨ a = 1 by omega) with rfl | rfl
  · rw [xsize_row]; exact (j 0).isLt
  · rw [xsize_col]; exact h

def inIx (i : grid1.Coords) (j : (win1_1.xblock i).Idx) (h : ((win1_1.xinj i j) 1).val < 128) : (win1_0.xblock i).Idx :=
  fun a => ⟨(leftIx (win1_1.xinj i j) h a).val, leftIx_lt i j h a⟩

theorem xinj_inIx (i : grid1.Coords) (j : (win1_1.xblock i).Idx) (h : ((win1_1.xinj i j) 1).val < 128) :
    win1_0.xinj i (inIx i j h) = leftIx (win1_1.xinj i j) h := rfl

/-- On the rows inside the array the widened block does not depend on what lies past them. -/
theorem wideBlk_fill (i : grid1.Coords) (x : S128x128.Idx → Elt F .f32) (b : (win1_0.xblock i).Idx → Elt F .f32) (j : (win1_1.xblock i).Idx) :
    wideBlk (win1_0.fill i x b) (win1_1.xinj i j)
      = if h : ((win1_1.xinj i j) 1).val < 128 then b (inIx i j h) else Scalar.ofBits .f32 0x00000000#32 := by
  unfold wideBlk
  by_cases h : ((win1_1.xinj i j) 1).val < 128
  · rw [dif_pos h, dif_pos h]
    exact (congrArg (win1_0.fill i x b) (xinj_inIx i j h).symm).trans (win1_0.fill_xinj _ _ _ _)
  · rw [dif_neg h, dif_neg h]

theorem cut_wideBlk (d : Dev nD) (t : Fin cfg1.N) (x : S128x128.Idx → Elt F .f32) :
    win1_1.cut (grid1.coords t) (wideBlk (gstg g d t))
      = win1_1.cut (grid1.coords t) (wideBlk (win1_0.fill (grid1.coords t) x (gblk g d t))) := by
  funext j
  exact (wideBlk_fill _ _ (gblk g d t) j).trans (wideBlk_fill _ x (gblk g d t) j).symm

theorem body_obligation (d : Dev nD) : BodyObligationLoose (dat g o B d) (defs₀ (F := F)) 𝒱₀ (none : HIx 1) Set.univ := fun t => by
  rw [bigSep_W1, bigSep_W1]
  simp only
  rw [show (dat g o B d).Φ t.succ = (dat g o B d).Φ t.castSucc from rfl,
    show (dat g o B d).owesAt none t.succ = (dat g o B d).owesAt none t.castSucc from rfl]
  iintro ⟨HΦ, Ho, ⟨%d0, H0⟩, ⟨%d1, H1⟩⟩
  rw [before_in g o B d t d0]
  iapply (sound_body (F := F) d Set.univ (grid1.coords t) (cfg1.slots t 0) (cfg1.slots t 1)
    (win1_0.fill (grid1.coords t) d0 (gblk g d t)) ((dat g o B d).before 1 t d1) _)
  isplitl [H0 H1]
  · isplitl [H0]
    · iexact H0
    · iexact H1
  iintro ⟨H0, H1⟩
  isplitl [HΦ]; · iexact HΦ
  isplitl [Ho]; · iexact Ho
  have hx : win1_0.cut (grid1.coords t) (gstg g d t) = gblk g d t := win1_0.cut_fill _ _ _
  have hs := win1_1.fill_congr_cut (i := grid1.coords t) (cut_wideBlk g d t d0).symm
  isplitl [H0]
  · iexists d0
    change _ ⊢ owns (d : Thread nD τ) (stage1_0 (cfg1.slots t 0)) fullShare (win1_0.fill (grid1.coords t) d0 (win1_0.cut (grid1.coords t) (gstg g d t)))
    rw [hx]; try iexact H0
  · iexists (wideBlk (win1_0.fill (grid1.coords t) d0 (gblk g d t)))
    change _ ⊢ owns (d : Thread nD τ) (stage1_1 (cfg1.slots t 1)) fullShare (win1_1.fill (grid1.coords t) (wideBlk (win1_0.fill (grid1.coords t) d0 (gblk g d t))) (win1_1.cut (grid1.coords t) (wideBlk (gstg g d t))))
    rw [hs]; try iexact H1

/-! ## The result array -/

theorem emb_in (t : Fin cfg1.N) (y : (win1_0.xblock (grid1.coords t)).Idx) (a : Fin 2) :
    ((win1_0.blk t).view.emb y a).val = win1_0.index t a * win1_0.size a + (y a).val :=
  win1_0.rect_emb_val t y a rfl

theorem emb_out (t : Fin cfg1.N) (y : (win1_1.xblock (grid1.coords t)).Idx) (a : Fin 2) :
    ((win1_1.blk t).view.emb y a).val = win1_1.index t a * win1_1.size a + (y a).val :=
  win1_1.rect_emb_val t y a rfl

theorem index_row (t : Fin cfg1.N) : win1_0.index t 0 * win1_0.size 0 = win1_1.index t 0 * win1_1.size 0 := rfl
theorem index_in (t : Fin cfg1.N) : win1_0.index t 1 * win1_0.size 1 = 0 := rfl
theorem index_out (t : Fin cfg1.N) : win1_1.index t 1 * win1_1.size 1 = 0 := by
  rw [show win1_1.index t 1 = 0 from rfl, Nat.zero_mul]

/-- Where the array holds the block's index `y` of the result, as an index of the result array. -/
def outPos (t : Fin cfg1.N) (y : (win1_1.xblock (grid1.coords t)).Idx) : S1441x2880.Idx := (win1_1.blk t).view.emb y

theorem outPos_val (t : Fin cfg1.N) (y : (win1_1.xblock (grid1.coords t)).Idx) (a : Fin 2) :
    (outPos t y a).val = win1_1.index t a * win1_1.size a + (y a).val := emb_out t y a

theorem outPos_col (t : Fin cfg1.N) (y : (win1_1.xblock (grid1.coords t)).Idx) : (outPos t y 1).val = (y 1).val := by
  rw [outPos_val, index_out, Nat.zero_add]

theorem leftIx_row (j : S128x2880.Idx) (h : (j 1).val < 128) : (leftIx j h 0).val = (j 0).val := by unfold leftIx blkIx; rfl
theorem leftIx_col (j : S128x2880.Idx) (h : (j 1).val < 128) : (leftIx j h 1).val = (j 1).val := by unfold leftIx blkIx; rfl

theorem inIx_row (i : grid1.Coords) (y : (win1_1.xblock i).Idx) (h : ((win1_1.xinj i y) 1).val < 128) : (inIx i y h 0).val = (y 0).val :=
  leftIx_row (win1_1.xinj i y) h
theorem inIx_col (i : grid1.Coords) (y : (win1_1.xblock i).Idx) (h : ((win1_1.xinj i y) 1).val < 128) : (inIx i y h 1).val = (y 1).val :=
  leftIx_col (win1_1.xinj i y) h

theorem emb_inIx (t : Fin cfg1.N) (y : (win1_1.xblock (grid1.coords t)).Idx) (h : ((win1_1.xinj (grid1.coords t) y) 1).val < 128)
    (h' : (outPos t y 1).val < 128) (a : Fin 2) :
    ((win1_0.blk t).view.emb (inIx (grid1.coords t) y h) a).val = (cnvIx (outPos t y 0) ⟨(outPos t y 1).val, h'⟩ a).val := by
  rw [emb_in]
  rcases (show a = 0 ∨ a = 1 by omega) with rfl | rfl
  · rw [index_row, inIx_row, ← outPos_val]; rfl
  · rw [index_in, Nat.zero_add, inIx_col, ← outPos_col]; rfl

theorem wide_outPos (d : Dev nD) (t : Fin cfg1.N) (y : (win1_1.xblock (grid1.coords t)).Idx) :
    (if h : ((win1_1.xinj (grid1.coords t) y) 1).val < 128 then gblk g d t (inIx (grid1.coords t) y h) else Scalar.ofBits .f32 0x00000000#32)
      = wide (g d) (outPos t y) := by
  have h1 : (outPos t y 1).val = ((win1_1.xinj (grid1.coords t) y) 1).val := outPos_col t y
  unfold wide
  by_cases h : ((win1_1.xinj (grid1.coords t) y) 1).val < 128
  · rw [dif_pos h, dif_pos (h1.trans_lt h)]
    unfold gblk
    exact congrArg (g d) (funext fun a => Fin.ext (emb_inIx t y h (h1.trans_lt h) a))
  · rw [dif_neg h, dif_neg (fun hh => h (h1.symm.trans_lt hh))]

/-- After the last write-back the result array is the canvas widened. -/
theorem final_out (d : Dev nD) : (dat g o B d).arrAt 1 cfg1.N = wide (g d) :=
  Dat.arrAt_eq_of_covers (dat g o B d) 1 (wide (g d)) (by decide +kernel) fun t _ y =>
    (wideBlk_fill _ _ (gblk g d t) y).trans (wide_outPos g d t y)

/-! ## The region -/

variable (a : (p : Fin 1) → (pcfgs (F := F) p).Adm) (L : GSem nD τ sig → Finset (HIx 1)) (lv : GSem nD τ sig → HIx 1 → ℕ)

set_option backward.isDefEq.respectTransparency.types false in
/-- The region as @main enters it: from the two arrays and the core owing nothing, the waits recorded so far inside `B`;
    it leaves the result array at the canvas widened and no wait recorded but those and the staging cells'. -/
def reg : Pipeline.RegionSeg (pcfgs (F := F)) a (pdats g o B a) (none : HIx 1) defs₀ 𝒱₀ L lv 0 where
  win := launch1.win.to₀
  block_pos := launch1.block_pos
  stage_whole := launch1.stage_whole
  K := PEmpty
  osem k := k.elim
  ho := Pipeline.OwnSemFacts.none _
  hbody d := body_obligation g o B d
  hwaits := Pipeline.hwaits_of_owed_zero _ _ _ _ L lv 0 fun _ _ => rfl
  pre d := iprop(((d.tc : Thread nD τ).loc main_v3 ↦{fullShare} g d) ∗ ((d.tc : Thread nD τ).loc main_v4 ↦{fullShare} o d)
    ∗ ∃ W : Waits sig (HIx 1), ⌜∀ p ∈ W, p ∈ B d⌝ ∗ owes (d : Thread nD τ) (0 : CellTallies nD τ sig (HIx 1)) W)
  post d := iprop(((d.tc : Thread nD τ).loc main_v3 ↦{fullShare} g d) ∗ ((d.tc : Thread nD τ).loc main_v4 ↦{fullShare} wide (g d))
    ∗ ∃ W : Waits sig (HIx 1), ⌜∀ p ∈ W, p ∈ B d ∨ p.2 = none⌝ ∗ owes (d : Thread nD τ) (0 : CellTallies nD τ sig (HIx 1)) W)
  X _ := BI.emp
  Y _ := BI.emp
  Z _ := BI.emp
  hentry d := by
    rw [Pipeline.ownSems0_none, Pipeline.arrays_eq (Pipeline.pin (pcfgs (F := F)) a) (pdats g o B a) 0 d launch1.arr_whole ((pdats g o B a 0 d).share_full fun _ => rfl)]
    iintro ⟨⟨H3, H4, HO⟩, -, -⟩
    imodintro
    isplitl [H3 H4]
    · rw [bigSep_W1]
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin d := by
    rw [show (pdats g o B a 0 d).Φ 0 = BI.emp from rfl]
    iintro -; iempintro
  hout d := by
    rw [Pipeline.ownSems0_none, scopedRest1_eq]
    iintro -
    isplitr; · iempintro
    isplitr <;> iempintro
  hexit d := by
    rw [Pipeline.arrays_eq (Pipeline.pin (pcfgs (F := F)) a) (pdats g o B a) 0 d launch1.arr_whole ((pdats g o B a 0 d).share_full fun _ => rfl)]
    have e0 : (dat g o B d).arrAt 0 cfg1.N = g d := (dat g o B d).arrAt_in 0 rfl _
    have e1 := final_out g o B d
    rw [bigSep_W1, show (pdats g o B a 0 d).arrAt 0 (Pipeline.pin (pcfgs (F := F)) a 0).N = g d from e0,
      show (pdats g o B a 0 d).arrAt 1 (Pipeline.pin (pcfgs (F := F)) a 0).N = wide (g d) from e1]
    iintro ⟨⟨H3, H4⟩, HO, -, -⟩
    imodintro
    isplitl [H3]; · iexact H3
    isplitl [H4]; · iexact H4
    unfold Pipeline.Dat.owesAt Pipeline.owesWithin
    icases HO with ⟨%W, %hW, HO⟩; iexists W; isplitr
    · ipureintro
      intro p hp
      rcases hW hp with h | ⟨w, s, h⟩
      · exact Or.inl h
      · exact Or.inr (by rw [h])
    iexact HO

end Cert.Proof.KernelIdealRun
-- ==== Proof.KernelIdealRun.lean ====
/-
  The kernel's run: @main on the TensorCore (two reshapes, the SparseCore call, the canvas's reshape, the widening
  region), the launch's ghost state, and what every final state holds: the arguments as they were, every counter at
  zero, and the result equal to the widened canvas of the three arguments.
-/
module

public import proofs.«01_k».proof.Proof.KernelIdealRegion

@[expose] public section

noncomputable section

namespace Cert.Proof.KernelIdealRun

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat Cfg Window BodyObligationLoose cellOf)

variable {F : FTy → Type} [FloatOps F]

local notation "𝕄" => MT nD τ sig (HIx 1) (Elt F) ℕ UU ℕ

/-! ## The pipeline's ghost state -/

/-- The widening pipeline's rounds inside the resource algebra. -/
def EP : Emb UP (MT nD τ sig (HIx 1) (Elt F) ℕ UU ℕ) :=
  ((Emb.inl : Emb UP (UP × Counters)).trans (embR : Emb (UP × Counters) (MT nD τ sig (HIx 1) (Elt F) ℕ UU ℕ)))

instance EP_landsIn : (EP (F := F)).LandsIn (upEmb : UEmb _ 𝕄) := by unfold EP; infer_instance

abbrev adm₀ : (p : Fin 1) → (pcfgs (F := F) p).Adm := fun p => (cfgs p).toPCfg_adm

/-- What the launch hands a TensorCore for the region. -/
abbrev G (d : Dev nD) : sProp 𝕄 :=
  iprop(Pipeline.cellsGhost (Pipeline.pin (pcfgs (F := F)) adm₀) EP 0 d ∗ Pipeline.toksInit (Pipeline.pin (pcfgs (F := F)) adm₀) EP 0 d)

/-- The pipeline's rounds at the launch. -/
abbrev pipeInit : UP :=
  initOf (Pipeline.cells (Pipeline.pin (pcfgs (F := F)) adm₀) cellOf_inj) (Pipeline.launchToks (Pipeline.pin (pcfgs (F := F)) adm₀) cellOf_inj)

/-- The launch element: the handshakes' rounds, the pipeline's rounds, no counter. -/
def u₀ : UU := (initOf (K (F := F)).hsCells (K (F := F)).hsToks,
  (pipeInit (F := F), 1))

variable (m : (ℓ : Loc nD τ sig) → Buf (Elt F) ℓ) (ρ : Dev nD → PrngReg)

omit [FloatOps F] in
theorem bigSep_emp' {I : Type} (s : Finset I) : (bigSep s fun _ => (iprop(emp) : sProp 𝕄)) = iprop(emp) := bigSep_emp_const s

theorem hu₀ : (ownU (u₀ (F := F)) : sProp 𝕄) ⊢ |={Set.univ}=> iprop(BI.own (EH (initOf (K (F := F)).hsCells (K (F := F)).hsToks)) ∗ (bigSep Finset.univ G)
      ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb _ _ _) $$ HR
  icases H with ⟨HP0, -⟩
  ihave HP := (show BI.own (((Emb.inl : Emb UP (UP × Counters)).trans (embR : Emb (UP × Counters) (MT nD τ sig (HIx 1) (Elt F) ℕ UU ℕ))) (pipeInit (F := F)))
    ⊢ (BI.own (EP (F := F) (pipeInit (F := F))) : sProp 𝕄) from .rfl) $$ HP0
  imod (Pipeline.fund_ghost (Pipeline.pin (pcfgs (F := F)) adm₀) EP cellOf_inj) $$ HP with ⟨Hg, Ht⟩
  imodintro
  isplitl [HH]; · iexact HH
  isplitl [Hg Ht]
  · rw [bigSep_sep']
    rw [show (Finset.univ : Finset (Fin 1)) = {0} from rfl]
    simp only [bigSep_singleton]
    isplitl [Hg]
    · iexact Hg
    · iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays -/

abbrev S8 : Finset (DevRef τ sig) := {a0', a1', a2', v0', v1', v2', v3', v4'}

abbrev tl (d : Dev nD) (b : Ref sig .tc) : Loc nD τ sig := (SparseCore.T d).loc b

omit [FloatOps F] in
theorem held_S8 (d : Dev nD) (W : Valuation τ sig (Elt F)) :
    (held (T d) S8 W : sProp 𝕄) = iprop((tl d main_arg0 ↦{fullShare} W a0') ∗ (tl d main_arg1 ↦{fullShare} W a1') ∗ (mLoc d ↦{fullShare} W a2')
      ∗ (rLoc d ↦{fullShare} W v0') ∗ (dLoc d ↦{fullShare} W v1') ∗ (oLoc d ↦{fullShare} W v2') ∗ (tl d main_v3 ↦{fullShare} W v3')
      ∗ tl d main_v4 ↦{fullShare} W v4') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((tl d main_arg0 ↦{fullShare} W main_arg0) ∗ (tl d main_arg1 ↦{fullShare} W main_arg1) ∗ (mLoc d ↦{fullShare} W main_arg2)
      ∗ (rLoc d ↦{fullShare} W main_v0) ∗ (dLoc d ↦{fullShare} W main_v1) ∗ (oLoc d ↦{fullShare} W main_v2) ∗ (tl d main_v3 ↦{fullShare} W main_v3)
      ∗ tl d main_v4 ↦{fullShare} W main_v4) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S8 (V0 m d) := by
  rw [unscopedBufs_eq, held_S8]; unfold V0; rfl

/-- After the call the canvas holds the stars; then the canvas is read as rows. -/
def V3 (d : Dev nD) : Valuation τ sig (Elt F) := Function.update (V2 m d) v2' (canvasOf m d)
def V4 (d : Dev nD) : Valuation τ sig (Elt F) := (opCanvas (F := F)).result (V3 m d)

theorem V3_of_ne (d : Dev nD) (b : DevRef τ sig) (h : b ≠ v2') : V3 m d b = V2 m d b := Function.update_of_ne h _ _
theorem V3_v2 (d : Dev nD) : V3 m d v2' = canvasOf m d := Function.update_self _ _ _

theorem V2_kept (d : Dev nD) (b : DevRef τ sig) (h0 : b ∉ ({v0'} : Finset (DevRef τ sig))) (h1 : b ∉ ({v1'} : Finset (DevRef τ sig))) : V2 m d b = m (d, b) := by
  unfold V2 V1
  rw [(opDec (F := F)).result_of_not_mem _ h1, (opRa (F := F)).result_of_not_mem _ h0]; rfl
theorem V4_kept (d : Dev nD) (b : DevRef τ sig) (h : b ∉ ({v3'} : Finset (DevRef τ sig))) : V4 m d b = V3 m d b := by
  unfold V4; rw [(opCanvas (F := F)).result_of_not_mem _ h]

theorem hRa : (opRa (F := F)).bufs ⊆ S8 := show ({a0', v0'} : Finset (DevRef τ sig)) ⊆ S8 by decide
theorem hDec : (opDec (F := F)).bufs ⊆ S8 := show ({a1', v1'} : Finset (DevRef τ sig)) ⊆ S8 by decide
theorem hCanvas : (opCanvas (F := F)).bufs ⊆ S8 := show ({v2', v3'} : Finset (DevRef τ sig)) ⊆ S8 by decide

/-- What the region reads and what it overwrites. -/
def rows (d : Dev nD) : Buf (Elt F) ((d.tc : Thread nD τ).loc main_v3) := V4 m d v3'
def old (d : Dev nD) : Buf (Elt F) ((d.tc : Thread nD τ).loc main_v4) := V4 m d v4'

/-! ## The region, called from @main -/

/-- The bound on the waits the TensorCore has recorded once the call is over. -/
def top : ℕ := 8 * SparseCore.Cfg.Blocks.fst (Q := 1) (N := 1) 1
def Bd (d : Dev nD) : Set (SemLoc sig × HIx 1) := {p | (K (F := F)).lev (T d, p.1) p.2 ≤ top}

abbrev region := reg (rows m) (old m) (Bd (F := F)) adm₀ (K (F := F)).L (K (F := F)).lev

/-- The core owing nothing, its recorded waits under the bound. -/
abbrev calm (d : Dev nD) : sProp 𝕄 := iprop(∃ W, ⌜(K (F := F)).WBelow (T d) W top⌝ ∗ owes (T d) (0 : CellTallies nD τ sig (HIx 1)) W)

theorem tcSt_calm (d : Dev nD) : ((K (F := F)).tcSt EH d 1 : sProp 𝕄) ⊢ iprop(calm (F := F) d ∗ (calm (F := F) d -∗ (K (F := F)).tcSt EH d 1)) := by
  unfold SparseCore.Cfg.tcSt
  rw [(K (F := F)).Otc_end d (le_refl 1)]
  iintro ⟨HO, Hr⟩
  isplitl [HO]; · iexact HO
  iintro HO
  isplitl [HO]; · iexact HO
  iexact Hr

/-- The region's call in the pipelines' own program, and as @main prints it. -/
abbrev entryProg : Prog (TpuEff nD τ sig (Elt F) (ΛP (F := F)) .tc) PUnit := .op (.customCall (Pipeline.entry 0) ()) fun _ => .ret ⟨⟩

theorem entry_lift : (Prog.lift (.customCall (SparseCore.inner (Pipeline.entry 0)) ())
      : Prog (TpuEff nD τ sig (Elt F) (SparseCore.Sig (ΛP (F := F)) 1) .tc) PUnit) = SparseCore.liftProg (entryProg (F := F)) := rfl

/-- What the region asks for. -/
theorem pre_close (d : Dev nD) : iprop((tl d main_v3 ↦{fullShare} rows m d) ∗ (tl d main_v4 ↦{fullShare} old m d)
    ∗ ∃ W : Waits sig (HIx 1), ⌜∀ p ∈ W, p ∈ Bd (F := F) d⌝ ∗ owes (T d) (0 : CellTallies nD τ sig (HIx 1)) W) ⊢ ((region m).pre d : sProp 𝕄) := Entails.rfl

/-- What the region leaves. -/
theorem post_open (d : Dev nD) : ((region m).post d : sProp 𝕄) ⊢ iprop((tl d main_v4 ↦{fullShare} wide (rows m d))
    ∗ ∃ W : Waits sig (HIx 1), ⌜∀ p ∈ W, p ∈ Bd (F := F) d ∨ p.2 = none⌝ ∗ owes (T d) (0 : CellTallies nD τ sig (HIx 1)) W) := by
  refine BIBase.Entails.trans (show ((region m).post d : sProp 𝕄) ⊢ iprop((tl d main_v3 ↦{fullShare} rows m d) ∗ (tl d main_v4 ↦{fullShare} wide (rows m d))
    ∗ ∃ W : Waits sig (HIx 1), ⌜∀ p ∈ W, p ∈ Bd (F := F) d ∨ p.2 = none⌝ ∗ owes (T d) (0 : CellTallies nD τ sig (HIx 1)) W) from Entails.rfl) ?_
  iintro ⟨-, H⟩
  iexact H

theorem region_run (d : Dev nD) (Φ : PUnit → sProp 𝕄) :
    iprop(boundary (T d) ∗ ((tl d main_v3 ↦{fullShare} rows m d) ∗ (tl d main_v4 ↦{fullShare} old m d) ∗ calm (F := F) d)
        ∗ levAts (K (F := F)).L (K (F := F)).lev ∗ G (F := F) d
        ∗ (iprop(boundary (T d) ∗ (tl d main_v4 ↦{fullShare} wide (rows m d)) ∗ calm (F := F) d) -∗ Φ ⟨⟩))
      ⊢ wp frame (wpE ((K (F := F)).defs (D (F := F))) 𝒱 (T d) none) Set.univ (Prog.lift (.customCall (SparseCore.inner (Pipeline.entry 0)) ())) Φ := by
  rw [entry_lift]
  have hR := (Pipeline.RegionSeg.wp (pcfgs (F := F)) adm₀ (pdats (rows m) (old m) (Bd (F := F)) adm₀) (none : HIx 1) cellOf_inj EP defs₀ 𝒱₀
    (K (F := F)).L (K (F := F)).lev (region m) d none (fun _ h => nomatch h) (fun _ => .ret ⟨⟩) Φ)
  iintro ⟨Hb, ⟨H3, H4, ⟨%W, %hW, HO⟩⟩, Hlv, ⟨Hg, Ht⟩, Hk⟩
  iapply ((K (F := F)).wp_liftProg (D (F := F)) 𝒱 (T d) Set.univ none (entryProg (F := F)) Φ)
  iapply hR
  isplitl [Hk]
  · iintro ⟨Hb, Hp⟩
    rw [wp_ret]; imodintro
    iapply Hk
    isplitl [Hb]; · iexact Hb
    ihave Hq := (post_open m d) $$ Hp
    icases Hq with ⟨H4, ⟨%W', %hW', HO⟩⟩
    isplitl [H4]; · iexact H4
    iexists W'
    isplitr
    · ipureintro
      intro p hp
      rcases hW' p hp with h | h
      · exact h
      · rw [h]; exact Nat.zero_le _
    iexact HO
  isplitl [Hb]; · iexact Hb
  isplitl [H3 H4 HO]
  · iapply (pre_close m d)
    isplitl [H3]; · iexact H3
    isplitl [H4]; · iexact H4
    iexists W
    isplitr
    · ipureintro; exact fun p hp => hW p hp
    iexact HO
  isplitl [Hlv]; · iexact Hlv
  isplitl [Hg]; · iexact Hg
  iexact Ht

/-! ## @main -/

/-- What @main leaves: the arguments as they were, the result at the widened canvas. -/
abbrev FIN (d : Dev nD) : sProp 𝕄 := iprop((tl d main_arg0 ↦{fullShare} m (tl d main_arg0)) ∗ (tl d main_arg1 ↦{fullShare} m (tl d main_arg1))
  ∗ (tl d main_arg2 ↦{fullShare} m (tl d main_arg2)) ∗ tl d main_v4 ↦{fullShare} wide (rows m d))

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := opRa) (S := S8) hRa (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opDec) (S := S8) hDec (V := V1 m d)) $$ [Hb Hheld]
  · isplitl [Hb]; · iexact Hb
    iexact Hheld
  iintro ⟨Hb, Hheld⟩
  rw [wp_ret]; imodintro
  ihave Hh := (show held (T d) S8 ((opDec (F := F)).result (V1 m d)) ⊢ _ from Entails.of_eq (held_S8 (F := F) d (V2 m d))) $$ Hheld
  icases Hh with ⟨H0, H1, H2, Hr, Hd, Ho, H3, H4⟩
  ihave Hs := (split_all m d (m (oLoc d))) $$ [H2 Hr Hd Ho]
  · isplitl [Hr]; · iexact Hr
    isplitl [Hd]; · iexact Hd
    isplitl [H2]; · iexact H2
    iexact Ho
  icases Hs with ⟨Hkept, Hcs⟩
  iapply ((K (F := F)).wp_run (D (F := F)) 𝒱 (EH := EH) (P := P m) κ d 0) $$ [Hst Hcs Hb H0 H1 H3 H4 Hkept Hts HG]
  isplitr; · iexact Hctx
  isplitl [Hst]; · iexact Hst
  isplitl [Hcs]; · iexact Hcs
  iintro ⟨Hst, Hdn⟩
  ihave Hs := (join_all m d (canvasOf m d)) $$ [Hkept Hdn]
  · isplitl [Hkept]; · iexact Hkept
    iexact Hdn
  icases Hs with ⟨Hr, Hd, H2, Ho⟩
  iapply (wp_hlo_within 𝒱 (SparseCore.T d) none Set.univ (op := opCanvas) (S := S8) hCanvas (V := V3 m d)) $$ [Hb H0 H1 H2 Hr Hd Ho H3 H4]
  · isplitl [Hb]; · iexact Hb
    rw [held_S8, V3_v2, V3_of_ne m d a0' (by decide), V3_of_ne m d a1' (by decide), V3_of_ne m d a2' (by decide), V3_of_ne m d v0' (by decide),
      V3_of_ne m d v1' (by decide), V3_of_ne m d v3' (by decide), V3_of_ne m d v4' (by decide)]
    isplitl [H0]; · iexact H0
    isplitl [H1]; · iexact H1
    isplitl [H2]; · iexact H2
    isplitl [Hr]; · iexact Hr
    isplitl [Hd]; · iexact Hd
    isplitl [Ho]; · iexact Ho
    isplitl [H3]; · iexact H3
    iexact H4
  iintro ⟨Hb, Hheld⟩
  rw [wp_ret]; imodintro
  ihave Hh := (show held (T d) S8 ((opCanvas (F := F)).result (V3 m d)) ⊢ _ from Entails.of_eq (held_S8 (F := F) d (V4 m d))) $$ Hheld
  icases Hh with ⟨H0, H1, H2, -, -, -, H3, H4⟩
  ihave Hc := (show (K (F := F)).tcSt EH d ((0 : Fin 1).val + 1) ⊢ _ from tcSt_calm (F := F) d) $$ Hst
  icases Hc with ⟨Hc, Hst⟩
  ihave Hlv := ((K (F := F)).ctx_levAts κ) $$ Hctx
  iapply (region_run m d)
  isplitl [Hb]; · iexact Hb
  isplitl [H3 H4 Hc]
  · isplitl [H3]; · iexact H3
    isplitl [H4]; · iexact H4
    iexact Hc
  isplitr; · iexact Hlv
  isplitl [HG]; · iexact HG
  iintro ⟨Hb, H4, Hc⟩
  imodintro
  isplitl [Hst Hc]
  · iapply Hst; iexact Hc
  isplitl [H0 H1 H2 H4]
  · rw [V4_kept m d a0' (by decide), V4_kept m d a1' (by decide), V4_kept m d a2' (by decide),
      V3_of_ne m d a0' (by decide), V3_of_ne m d a1' (by decide), V3_of_ne m d a2' (by decide),
      V2_kept m d a0' (by decide) (by decide), V2_kept m d a1' (by decide) (by decide), V2_kept m d a2' (by decide) (by decide)]
    isplitl [H0]; · iexact H0
    isplitl [H1]; · iexact H1
    isplitl [H2]; · iexact H2
    iexact H4
  isplitl [Hb] <;> iassumption

/-! ## The run -/

def fq (d : Dev nD) (s' : Phys nD τ sig (Elt F)) : Prop :=
  s'.mem.mem (tl d main_arg0) = m (tl d main_arg0) ∧ s'.mem.mem (tl d main_arg1) = m (tl d main_arg1)
    ∧ s'.mem.mem (tl d main_arg2) = m (tl d main_arg2) ∧ s'.mem.mem (tl d main_v4) = wide (rows m d)

theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
/-- Two facts that a resource gives, together. -/
theorem both {Q : sProp 𝕄} {a b : Prop} (ha : Q ⊢ (⌜a⌝ : sProp 𝕄)) (hb : Q ⊢ (⌜b⌝ : sProp 𝕄)) : Q ⊢ (⌜a ∧ b⌝ : sProp 𝕄) :=
  Laws.pure_elim a ha fun h => hb.trans (Laws.pure_mono fun h' => ⟨h, h'⟩)

theorem hfin (d : Dev nD) (s' : Phys nD τ sig (Elt F)) : iprop(FIN m d ∗ SI s') ⊢ (⌜fq m d s'⌝ : sProp 𝕄) := by
  refine both (.trans ?_ (read_whole (tl d main_arg0) _ s')) (both (.trans ?_ (read_whole (tl d main_arg1) _ s'))
    (both (.trans ?_ (read_whole (tl d main_arg2) _ s')) (.trans ?_ (read_whole (tl d main_v4) _ s'))))
  all_goals
    iintro ⟨⟨H0, H1, H2, H4⟩, HSI⟩
    isplitr [HSI]
    · iassumption
    · iexact HSI

def QC : PUnit × MemSt nD τ sig (Elt F) → Prop := fun r =>
  (∀ d : Dev nD, r.2.mem (tl d main_arg0) = m (tl d main_arg0) ∧ r.2.mem (tl d main_arg1) = m (tl d main_arg1)
    ∧ r.2.mem (tl d main_arg2) = m (tl d main_arg2) ∧ r.2.mem (tl d main_v4) = wide (rows m d)) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.KernelIdealRun

end
-- ==== Proof.Frames.lean ====
/- The three programs run to the end, leave their arguments as they were and every semaphore counter at zero. -/
module

public import proofs.«01_k».proof.Defs
public import proofs.«01_k».proof.Proof.KernelRun
public import proofs.«01_k».proof.Proof.KernelIdealRun
public import proofs.«01_k».proof.Proof.Gen.ReferenceIdeal.Run
public import Idealize.ShloMosaic.Lib.Quiescent

@[expose] public section

noncomputable section

namespace Cert.Proof

open Idealize.ShloMosaic Idealize.SL.Sem

/-- The kernel's frame, at the bit-exact instance: `run_main` with the result's value forgotten. -/
theorem frame_Kernel : Cert.quiescent_Kernel (hKernel := Cert.Kernel.Gen.facts) := fun m g _ =>
  (θ_run _ _ _).mono (fun _ h => ⟨fun c => ⟨(h.1 c).1, (h.1 c).2.1, (h.1 c).2.2.1⟩, h.2⟩) (KernelRun.run_main (F := Bits) m g)

/-- The kernel's frame at the ideal instance. -/
theorem frame_KernelIdeal : Cert.quiescent_KernelIdeal (hKernelIdeal := Cert.KernelIdeal.Gen.facts) := fun m g _ =>
  (θ_run _ _ _).mono (fun _ h => ⟨fun c => ⟨(h.1 c).1, (h.1 c).2.1, (h.1 c).2.2.1⟩, h.2⟩) (KernelIdealRun.run_main (F := Ideal) m g)

/-- The reference's frame: it declares no semaphore at all. -/
theorem frame_ReferenceIdeal : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

end Cert.Proof

end
-- ==== Proof.Stars.lean ====
/- One star at the ideal instance: the row and the column its declination and right ascension select, as the integer
   parts of two extended reals, and their ranges for coordinates in [0, 1). -/
module

public import Idealize.ShloMosaic.PureOps.Ideal.Laws
public import Idealize.ShloMosaic.Lib.IdealHost

@[expose] public section

noncomputable section

namespace Cert.Proof.Stars

open Idealize.ShloMosaic

theorem lit180 : Ideal.ofBits .f32 0x43340000#32 = ((180 : ℝ) : EReal) := by
  simp [Ideal.ofBits, Ideal.ieee, -EReal.coe_mul]; norm_num
theorem litPi : Ideal.ofBits .f32 0x40490FDB#32 = ((13176795 / 4194304 : ℝ) : EReal) := by
  simp [Ideal.ofBits, Ideal.ieee, -EReal.coe_mul]; norm_num
theorem lit90 : Ideal.ofBits .f32 0x42B40000#32 = ((90 : ℝ) : EReal) := by
  simp [Ideal.ofBits, Ideal.ieee, -EReal.coe_mul]; norm_num
theorem lit8 : Ideal.ofBits .f32 0x41000000#32 = ((8 : ℝ) : EReal) := by
  simp [Ideal.ofBits, Ideal.ieee, -EReal.coe_mul]; norm_num
theorem lit15 : Ideal.ofBits .f32 0x41700000#32 = ((15 : ℝ) : EReal) := by
  simp [Ideal.ofBits, Ideal.ieee, -EReal.coe_mul]; norm_num

/-- The row coordinate of a declination: (d · 180 / π + 90) · 8, at the literals both programs print. -/
def rowX (d : EReal) : EReal :=
  (Ideal.div (d * Ideal.ofBits .f32 0x43340000#32) (Ideal.ofBits .f32 0x40490FDB#32) + Ideal.ofBits .f32 0x42B40000#32) * Ideal.ofBits .f32 0x41000000#32

/-- The column coordinate of a right ascension: r · 15 · 8. -/
def colX (r : EReal) : EReal := r * Ideal.ofBits .f32 0x41700000#32 * Ideal.ofBits .f32 0x41000000#32

/-- The map row and column a star falls in, as the words the conversions give. -/
def rowW (d : EReal) : BitVec 32 := Ideal.fptosi 32 (rowX d)
def colW (r : EReal) : BitVec 32 := Ideal.fptosi 32 (colX r)

/-- An extended real in [0, 1) is a real. -/
theorem real_of_unit (x : EReal) (h0 : 0 ≤ x) (h1 : x < 1) : ∃ r : ℝ, x = (r : EReal) ∧ 0 ≤ r ∧ r < 1 := by
  induction x with
  | bot => exact absurd h0 (by simp)
  | top => exact absurd h1 (by simp)
  | coe r => exact ⟨r, rfl, by exact_mod_cast h0, by exact_mod_cast h1⟩

/-- A real that is not negative and below a bound converts to its integer part, and taking the floor first changes nothing. -/
theorem word_of (x : ℝ) (lo hi : ℕ) (h0 : (lo : ℝ) ≤ x) (h1 : x < (hi : ℝ)) (hh : hi ≤ 2 ^ 31 - 1) :
    Ideal.fptosi 32 (Ideal.liftRound Int.floor (x : EReal)) = Ideal.fptosi 32 (x : EReal)
      ∧ lo ≤ (Ideal.fptosi 32 (x : EReal)).toNat ∧ (Ideal.fptosi 32 (x : EReal)).toNat < hi := by
  have hx : (0 : ℝ) ≤ x := le_trans (by positivity) h0
  have hf0 : (lo : ℤ) ≤ ⌊x⌋ := Int.le_floor.2 (by exact_mod_cast h0)
  have hf1 : ⌊x⌋ < (hi : ℤ) := Int.floor_lt.2 (by exact_mod_cast h1)
  have hfr : (0 : ℝ) ≤ ((⌊x⌋ : ℤ) : ℝ) := by exact_mod_cast le_trans (Int.natCast_nonneg lo) hf0
  have e : Ideal.fptosi 32 (x : EReal) = BitVec.ofInt 32 ⌊x⌋ := by
    unfold Ideal.fptosi
    rw [Ideal.toIntClamped_coe, if_pos hx]
    congr 1
    norm_num
    omega
  refine ⟨?_, ?_⟩
  · rw [e, Ideal.liftRound_coe]
    unfold Ideal.fptosi
    rw [Ideal.toIntClamped_coe, if_pos hfr, Int.floor_intCast]
    congr 1
    norm_num
    omega
  · rw [e, BitVec.toNat_ofInt]
    norm_num at hh ⊢
    omega

/-- A declination in [0, 1) falls in a row from 720 to 1178; the floor before the conversion changes nothing. -/
theorem row_word (d : EReal) (h0 : 0 ≤ d) (h1 : d < 1) :
    Ideal.fptosi 32 (Ideal.liftRound Int.floor (rowX d)) = rowW d ∧ 720 ≤ (rowW d).toNat ∧ (rowW d).toNat < 1179 := by
  obtain ⟨r, rfl, hr0, hr1⟩ := real_of_unit d h0 h1
  have e : rowX (r : EReal) = (((r * 180 * (1 / (13176795 / 4194304)) + 90) * 8 : ℝ) : EReal) := by
    unfold rowX
    rw [lit180, litPi, lit90, lit8, Ideal.div_coe (by norm_num)]
    norm_cast
  unfold rowW
  rw [e]
  refine word_of _ 720 1179 ?_ ?_ (by norm_num)
  · norm_num; linarith
  · norm_num; linarith

/-- A right ascension in [0, 1) falls in a column from 0 to 119; the floor before the conversion changes nothing. -/
theorem col_word (r : EReal) (h0 : 0 ≤ r) (h1 : r < 1) :
    Ideal.fptosi 32 (Ideal.liftRound Int.floor (colX r)) = colW r ∧ (colW r).toNat < 120 := by
  obtain ⟨r, rfl, hr0, hr1⟩ := real_of_unit r h0 h1
  have e : colX (r : EReal) = ((r * 15 * 8 : ℝ) : EReal) := by
    unfold colX
    rw [lit15, lit8]
    norm_cast
  unfold colW
  rw [e]
  have := word_of (r * 15 * 8) 0 120 (by norm_num; linarith) (by norm_num; linarith) (by norm_num)
  exact ⟨this.1, this.2.2⟩

end Cert.Proof.Stars

end
-- ==== Proof.KernelValue.lean ====
/- What the kernel's canvas holds at the ideal instance, for stars with coordinates in [0, 1): at every row and column
   the scaled magnitude of the last star that falls there, and zero where none does. -/
module

public import proofs.«01_k».proof.Proof.KernelIdealRun
public import proofs.«01_k».proof.Proof.Stars
public import Idealize.ShloMosaic.Lib.LaneScatter.Pure
public import Idealize.ShloMosaic.Lib.Routing.OpsSet

@[expose] public section

noncomputable section

namespace Cert.Proof.StarMap

open Cert.KernelIdeal Cert.KernelIdeal.Gen
open Idealize.ShloMosaic Idealize.ShloMosaic.ValueIdx
open Idealize.ShloMosaic.LaneScatter (lastHit lastHit_add lastHit_congr lastHit_of_none)
open Cert.Proof.KernelIdealRun Cert.Proof.Stars

/-- The map both programs compute: at row `i` and column `j`, the scaled magnitude of the last of the 50000 stars whose
    declination's row, counted from the bottom, is `i` and whose right ascension's column is `j`; zero where none is. -/
def mapAt (r d mg : ℕ → EReal) (i j : ℕ) : EReal :=
  lastHit (fun n => 1440 - (rowW (d n)).toNat = i ∧ (colW (r n)).toNat = j) (fun n => mg n * Ideal.ofBits .f32 0x437F0000#32) 0 50000

/-! ## Sixteen lanes stored -/

/-- Lane `t` modulo 16. -/
def laneIx (t : ℕ) : S16.Idx := fun | 0 => ⟨t % 16, Nat.mod_lt _ (by decide)⟩ | ⟨_ + 1, h⟩ => absurd h (Nat.not_lt.2 (Nat.le_add_left _ _))

theorem laneIx_val (t : ℕ) : ((laneIx t) 0).val = t % 16 := by unfold laneIx; rfl

theorem ofLane_eq (k : Fin 16) : (Shape.ofLane (d := ![16]) k : S16.Idx) = laneIx k.val := by
  funext a
  match a with
  | 0 => exact Fin.ext (Nat.mod_eq_of_lt k.isLt).symm

/-- A masked store by lanes, read at an element: the value of the last set lane whose address it is, else what was there. -/
theorem storeIdx_at (f : Vec Ideal S5888 .f32) (a : IVec S16 32) (v : Vec Ideal S16 .f32) (mask : IVec S16 1)
    (h : ∀ b x, ((![a] : Fin 1 → IVec S16 32) b x).toNat < S5888.size b) (j : S5888.Idx) :
    storeIdx (F := Ideal) (e := .f32) f ![a] v mask false h j
      = lastHit (fun t => mask (laneIx t) = 1 ∧ (j 0).val = (a (laneIx t)).toNat) (fun t => v (laneIx t)) (f j) 16 := by
  rw [← Routing.foldl_finRange_lastHit]
  unfold storeIdx
  refine ((List.foldl_hom (fun g : Vec Ideal S5888 .f32 => g j) fun g k => ?_).symm)
  have hl : (Shape.ofLane (d := ![16]) k : S16.Idx) = laneIx k.val := ofLane_eq k
  have key : ∀ x : S16.Idx, (if mask x = 1 ∧ (j 0).val = (a x).toNat then v x else g j)
      = (if mask x = 1 then fun j' => if ∀ b, (j' b).val = ((idxAt (s := S5888) ![a] h x) b).val then v x else g j' else g) j := by
    intro x
    by_cases hm : mask x = 1
    · have e : (∀ b, (j b).val = ((idxAt (s := S5888) ![a] h x) b).val) ↔ (j 0).val = (a x).toNat := by
        constructor
        · intro hh; exact hh 0
        · intro hh b
          match b with
          | 0 => exact hh
      simp only [hm, true_and, if_true, e]
    · simp only [hm, false_and, if_false]
  refine (congrArg (fun x => if mask x = 1 ∧ (j 0).val = (a x).toNat then v x else g j) hl.symm).trans ((key _).trans ?_)
  simp only [Bool.false_eq_true, if_false]

/-! ## One group after another -/

/-- Star `n`'s lane is set and its address is element `j`, in the task at `L`. -/
abbrev hitLane (L : grid0.Coords) (R D : S50000.Idx → Elt Ideal .f32) (j : S5888.Idx) (n : ℕ) : Prop :=
  k0_pay3 L (group D (n / 16)) (laneIx n) = 1 ∧ (j 0).val = (k0_pay4 L (group R (n / 16)) (group D (n / 16)) (laneIx n)).toNat

theorem lane_div (g t : ℕ) (h : t < 16) : (16 * g + t) / 16 = g := by omega
theorem lane_mod (g t : ℕ) : laneIx (16 * g + t) = laneIx t := by
  unfold laneIx
  funext a
  match a with
  | 0 => exact Fin.ext (by show (16 * g + t) % 16 = t % 16; omega)

/-- The buffer after `g` groups: the value of the last of the first `16 g` stars whose lane is set and whose address it is. -/
theorem locAt_lastHit (L : grid0.Coords) (R D M : S50000.Idx → Elt Ideal .f32) (j : S5888.Idx) (g : ℕ) :
    locAt L R D M g j = lastHit (hitLane L R D j) (fun n => k0_pay5 (group M (n / 16)) (laneIx n)) (Scalar.ofBits (F := Ideal) .f32 0x00000000#32) (16 * g) := by
  induction g with
  | zero => rw [locAt_zero]; rfl
  | succ g ih =>
    rw [locAt_succ]
    unfold locStep
    rw [storeIdx_at, ih, show 16 * (g + 1) = 16 * g + 16 from rfl, lastHit_add]
    refine lastHit_congr _ (fun t ht => ?_) (fun t ht _ => ?_)
    · unfold hitLane; rw [lane_div g t ht, lane_mod]
    · rw [lane_div g t ht, lane_mod]

/-! ## One star's words -/

theorem starIx_lane (n : ℕ) : starIx (16 * (n / 16) + ((laneIx n) 0).val) = starIx n := by
  rw [laneIx_val, Nat.div_add_mod]

theorem group_lane (X : S50000.Idx → Elt Ideal .f32) (n : ℕ) : group X (n / 16) (laneIx n) = X (starIx n) := by
  unfold group
  rw [starIx_lane]

/-- The star's row inside the task's band, as the kernel computes it. -/
def bandW (L : grid0.Coords) (d : EReal) : BitVec 32 :=
  1440#32 - rowW d - (BitVec.ofNat 32 (L 0).val * 16#32 + BitVec.ofNat 32 (L 1).val) * 45#32

theorem pay2_at (L : grid0.Coords) (v : Vec Ideal S16 .f32) (x : S16.Idx) : k0_pay2 (F := Ideal) L v x = bandW L (v x) := rfl

theorem pay3_at (L : grid0.Coords) (v : Vec Ideal S16 .f32) (x : S16.Idx) :
    k0_pay3 (F := Ideal) L v x = IntOp.andi (IntOp.cmpi .sge (bandW L (v x)) 0#32) (IntOp.cmpi .slt (bandW L (v x)) 45#32) := rfl

theorem pay4_at (L : grid0.Coords) (u v : Vec Ideal S16 .f32) (x : S16.Idx) :
    k0_pay4 (F := Ideal) L u v x = IntOp.minsi (IntOp.maxsi (bandW L (v x) * 128#32 + colW (u x)) 0#32) 5887#32 := rfl

theorem pay5_at (v : Vec Ideal S16 .f32) (x : S16.Idx) : k0_pay5 (F := Ideal) v x = v x * Ideal.ofBits .f32 0x437F0000#32 := rfl

/-- The task's number. -/
abbrev numOf (L : grid0.Coords) : ℕ := 16 * (L 0).val + (L 1).val

/-- The star's row inside the band, as an integer: its row from the top less the band's first. -/
theorem bandW_toInt (L : grid0.Coords) (d : EReal) (h0 : 720 ≤ (rowW d).toNat) (h1 : (rowW d).toNat < 1179) :
    (bandW L d).toInt = 1440 - ((rowW d).toNat : ℤ) - 45 * (numOf L : ℤ) := by
  have b0 : (L 0).val < 2 := (L 0).isLt
  have b1 : (L 1).val < 16 := (L 1).isLt
  have e : (bandW L d).toNat = (4294967296 + 1440 - (rowW d).toNat - 45 * numOf L) % 4294967296 := by
    unfold bandW numOf
    generalize rowW d = a at h0 h1
    simp only [BitVec.toNat_sub, BitVec.toNat_add, BitVec.toNat_mul, BitVec.toNat_ofNat]
    omega
  rw [BitVec.toInt_eq_toNat_cond, e]
  unfold numOf at *
  split <;> omega

theorem ofBool_one (b : Bool) : BitVec.ofBool b = 1#1 ↔ b = true := by cases b <;> decide

/-- The lane is set when the star's row lies in the task's band. -/
theorem set_iff (L : grid0.Coords) (d : EReal) (h0 : 720 ≤ (rowW d).toNat) (h1 : (rowW d).toNat < 1179) :
    IntOp.andi (IntOp.cmpi .sge (bandW L d) 0#32) (IntOp.cmpi .slt (bandW L d) 45#32) = 1
      ↔ 45 * numOf L ≤ 1440 - (rowW d).toNat ∧ 1440 - (rowW d).toNat < 45 * numOf L + 45 := by
  have e := bandW_toInt L d h0 h1
  rw [show (1 : BitVec 1) = 1#1 from rfl, IntOp.andi_eq_one]
  unfold IntOp.cmpi
  have t0 : (0#32 : BitVec 32).toInt = 0 := by decide
  have t1 : (45#32 : BitVec 32).toInt = 45 := by decide
  simp only [ofBool_one, BitVec.sle_eq_decide, BitVec.slt_eq_decide, e, t0, t1, decide_eq_true_eq]
  omega

/-- The address of a star in the band: its row inside the band times 128, and its column. -/
theorem addr_eq (L : grid0.Coords) (r d : EReal) (h0 : 720 ≤ (rowW d).toNat) (h1 : (rowW d).toNat < 1179) (hc : (colW r).toNat < 120)
    (hb : 45 * numOf L ≤ 1440 - (rowW d).toNat ∧ 1440 - (rowW d).toNat < 45 * numOf L + 45) :
    (IntOp.minsi (IntOp.maxsi (bandW L d * 128#32 + colW r) 0#32) 5887#32).toNat
      = (1440 - (rowW d).toNat - 45 * numOf L) * 128 + (colW r).toNat := by
  have e := bandW_toInt L d h0 h1
  have en : (bandW L d).toNat = 1440 - (rowW d).toNat - 45 * numOf L := by
    rw [BitVec.toInt_eq_toNat_cond] at e
    have := (bandW L d).isLt
    split at e <;> omega
  have hx : (bandW L d * 128#32 + colW r).toNat = (1440 - (rowW d).toNat - 45 * numOf L) * 128 + (colW r).toNat := by
    simp only [BitVec.toNat_add, BitVec.toNat_mul, BitVec.toNat_ofNat, en]
    omega
  have hi : (bandW L d * 128#32 + colW r).toInt = ((1440 - (rowW d).toNat - 45 * numOf L) * 128 + (colW r).toNat : ℕ) := by
    rw [BitVec.toInt_eq_toNat_cond, hx]
    split <;> omega
  have m1 : IntOp.maxsi (bandW L d * 128#32 + colW r) 0#32 = bandW L d * 128#32 + colW r := by
    unfold IntOp.maxsi
    simp only [BitVec.sle_eq_decide, BitVec.slt_eq_decide, hi]
    simp
    intro h
    apply BitVec.eq_of_toNat_eq
    rw [hx]
    simp only [BitVec.toNat_ofNat]
    omega
  have m2 : IntOp.minsi (bandW L d * 128#32 + colW r) 5887#32 = bandW L d * 128#32 + colW r := by
    unfold IntOp.minsi
    simp only [BitVec.sle_eq_decide, BitVec.slt_eq_decide, hi]
    simp
    try omega
  rw [m1, m2, hx]

/-! ## The canvas -/

/-- The task that writes row `i` of the canvas: 45 rows each, the last task the row left over as well. -/
theorem num_coordsOf (w : ℕ) (hw : w < 32) : numOf (coordsOf w) = w := by
  show 16 * (w / 16 % 2) + w % 16 = w
  omega

/-- The canvas, read at an element: the map at the element's row and column of 128. -/
theorem canvas_map (R D M : S50000.Idx → Elt Ideal .f32) (hr : ∀ i, (0 : EReal) ≤ R i ∧ R i < (1 : EReal)) (hd : ∀ i, (0 : EReal) ≤ D i ∧ D i < (1 : EReal))
    (j : S184448.Idx) :
    canvas (F := Ideal) R D M j
      = mapAt (fun n => R (starIx n)) (fun n => D (starIx n)) (fun n => M (starIx n)) ((j 0).val / 128) ((j 0).val % 128) := by
  unfold canvas mapAt
  rw [locAt_lastHit, show (16 * 3125 : ℕ) = 50000 from rfl,
    show Scalar.ofBits (F := Ideal) .f32 0x00000000#32 = (0 : EReal) from Ideal.ofBits_zero_f32]
  have hj : (j 0).val < 184448 := (j 0).isLt
  have hw : numOf (coordsOf (ownerOf j)) = ownerOf j := num_coordsOf _ (by unfold ownerOf; omega)
  refine lastHit_congr _ (fun n _ => ?_) (fun n _ _ => ?_)
  · unfold hitLane
    rw [pay3_at, pay4_at, group_lane, group_lane]
    obtain ⟨-, a0, a1⟩ := row_word (D (starIx n)) (hd _).1 (hd _).2
    obtain ⟨-, b1⟩ := col_word (R (starIx n)) (hr _).1 (hr _).2
    rw [set_iff _ _ a0 a1]
    have e := addr_eq (coordsOf (ownerOf j)) (R (starIx n)) (D (starIx n)) a0 a1 b1
    rw [hw] at e ⊢
    show _ ∧ (j 0).val - 5760 * ownerOf j = _ ↔ _
    dsimp only
    generalize (rowW (D (starIx n))).toNat = a at a0 a1 e ⊢
    generalize (colW (R (starIx n))).toNat = b at b1 e ⊢
    have ho : ownerOf j = min ((j 0).val / 5760) 31 := rfl
    generalize ownerOf j = w at ho e ⊢
    generalize (j 0).val = x at hj ho ⊢
    constructor
    · rintro ⟨hb, hx⟩
      rw [e hb] at hx
      omega
    · rintro ⟨h1, h2⟩
      have hb : 45 * w ≤ 1440 - a ∧ 1440 - a < 45 * w + 45 := by omega
      refine ⟨hb, ?_⟩
      rw [e hb]
      omega
  · rw [pay5_at, group_lane]

end Cert.Proof.StarMap

end
-- ==== Proof.ReferenceValue.lean ====
/- What the reference leaves, read at a row and a column: its scatter of the magnitudes at pairs of index words, the
   scaling and the flip. -/
module

public import proofs.«01_k».proof.Proof.Gen.ReferenceIdeal.Run
public import Idealize.ShloMosaic.Lib.LaneScatter.Pure
public import Idealize.ShloMosaic.Lib.Routing.OpsSet
public import Idealize.ShloMosaic.Lib.Routing.OpsPair

@[expose] public section

noncomputable section

namespace Cert.Proof.StarMap

open Idealize.ShloMosaic Idealize.ShloMosaic.ValueIdx Idealize.ShloMosaic.Routing
open Idealize.ShloMosaic.LaneScatter (lastHit lastHit_congr)

/-- One star's update lands at row `r` and column `c` exactly when its two index words, read signed, are `r` and `c`. -/
theorem lands_at {R C N : ℕ} (d : ScatterDims (shape2 R C) (shape2 N 2) (shape1 N)) (hiw : d.insertedWindowDims = [0, 1])
    (hsd : d.scatterDimsToOperandDims = [0, 1]) (hiv : d.indexVectorDim = 1) (idx : IVec (shape2 N 2) 32) (n : Fin N) (r : Fin R) (c : Fin C) :
    d.resultIdx? (ix1 n) idx = some (ix2 r c) ↔ (idx (ix2 n 0)).toInt = r.val ∧ (idx (ix2 n 1)).toInt = c.val := by
  -- no update has a window: both of the table's axes are inserted
  have hw : ∀ q : Fin 2, d.window (ix1 n) q = 0 := by
    intro q
    unfold ScatterDims.window
    refine dif_neg fun h => ?_
    have h' := (List.mem_filter.1 h).2
    rw [hiw] at h'
    fin_cases q <;> simp at h'
  -- component `q` of the start is read at `(n, q)`
  have hs : ∀ q : Fin 2, d.start (ix1 n) idx q = (idx (ix2 n q)).toInt := by
    intro q
    have hq : q ∈ d.scatterDimsToOperandDims := by rw [hsd]; fin_cases q <;> simp
    unfold ScatterDims.start
    rw [dif_pos hq]
    congr 2
    funext b
    apply Fin.ext
    unfold ScatterDims.siIdx
    match b with
    | ⟨0, _⟩ =>
      rw [dif_neg (by rw [hiv]; exact Nat.zero_ne_one)]
      unfold ScatterDims.siCoord
      simp only [Fin.val_cast]
      exact congrArg (fun a : Fin 1 => (ix1 n a).val) (Subsingleton.elim (α := Fin 1) _ 0)
    | ⟨1, _⟩ =>
      rw [dif_pos hiv.symm]
      show List.idxOf q d.scatterDimsToOperandDims = q.val
      rw [hsd]
      fin_cases q <;> rfl
  rw [resultIdx?_ix2, hw, hw, hs, hs]
  simp

/-- A scatter that overwrites, at pairs of index words: each entry is the last update whose words name it, else the operand's. -/
theorem scatter_pairs {α : Type} {R C N : ℕ} (d : ScatterDims (shape2 R C) (shape2 N 2) (shape1 N)) (hiw : d.insertedWindowDims = [0, 1])
    (hsd : d.scatterDimsToOperandDims = [0, 1]) (hiv : d.indexVectorDim = 1) (x0 : (shape2 R C).Idx → α) (idx : IVec (shape2 N 2) 32)
    (upd : (shape1 N).Idx → α) (gr gc : ℕ → ℤ) (gu : ℕ → α) (hr : ∀ n : Fin N, (idx (ix2 n 0)).toInt = gr n.val)
    (hc : ∀ n : Fin N, (idx (ix2 n 1)).toInt = gc n.val) (hu : ∀ n : Fin N, upd (ix1 n) = gu n.val) (r : Fin R) (c : Fin C) :
    Host.scatter d (fun _ b => b) x0 idx upd (ix2 r c)
      = lastHit (fun n => gr n = r.val ∧ gc n = c.val) gu (x0 (ix2 r c)) N := by
  rw [scatter_at, ← foldl_finRange_lastHit]
  have step : ∀ (a : α) (n : Fin (shape1 N).numel),
      (if d.resultIdx? ((shape1 N).rowMajor.symm n) idx = some (ix2 r c) then upd ((shape1 N).rowMajor.symm n) else a)
        = if gr n.val = r.val ∧ gc n.val = c.val then gu n.val else a := by
    intro a n
    rw [symm1]
    simp only [lands_at d hiw hsd hiv, hr, hc, hu, Fin.val_cast]
  rw [show (fun (a : α) (n : Fin (shape1 N).numel) => if d.resultIdx? ((shape1 N).rowMajor.symm n) idx = some (ix2 r c) then upd ((shape1 N).rowMajor.symm n) else a)
    = fun a n => if gr n.val = r.val ∧ gc n.val = c.val then gu n.val else a from funext fun a => funext fun n => step a n]
  rw [foldl_finRange_lastHit (fun n => gr n = r.val ∧ gc n = c.val) gu, foldl_finRange_lastHit (fun n => gr n = r.val ∧ gc n = c.val) gu, numel1]

/-- A function of the last hit is the last hit of the function's values. -/
theorem map_lastHit {α β : Type} (f : α → β) (hit : ℕ → Prop) [DecidablePred hit] (val : ℕ → α) (fill : α) (n : ℕ) :
    f (lastHit hit val fill n) = lastHit hit (fun k => f (val k)) (f fill) n := by
  induction n with
  | zero => rfl
  | succ n ih =>
    show f (if hit n then val n else lastHit hit val fill n) = if hit n then f (val n) else lastHit hit (fun k => f (val k)) (f fill) n
    rw [← ih]
    split <;> rfl

end Cert.Proof.StarMap

end
-- ==== Proof.Values.lean ====
/- The kernel's result and the reference's, at the ideal instance and for stars with coordinates in [0, 1): both are the
   map of Proof/KernelValue.lean at every row and column. -/
module

public import proofs.«01_k».proof.Proof.KernelValue
public import proofs.«01_k».proof.Proof.ReferenceValue
public import Idealize.ShloMosaic.Lib.Pointwise.Reshape

@[expose] public section

noncomputable section

namespace Cert.Proof.StarMap

open Idealize.ShloMosaic hiding ix1 ix2
open Idealize.ShloMosaic.ValueIdx
open Idealize.ShloMosaic.LaneScatter (lastHit lastHit_congr lastHit_of_none)
open Cert.Proof.Stars Cert.Proof.KernelIdealRun

/-- Coordinates in [0, 1), as the claim assumes of the right ascensions and of the declinations. -/
def Unit01 {s : Shape} (x : s.Idx → EReal) : Prop := ∀ i, (0 : EReal) ≤ x i ∧ x i < (1 : EReal)

/-- Number `n` modulo 50000. -/
def star (n : ℕ) : Fin 50000 := ⟨n % 50000, Nat.mod_lt _ (by decide)⟩
/-- A column of 50000 entries, read as a sequence. -/
def seqOf (x : Cert.KernelIdeal.S50000x1.Idx → EReal) (n : ℕ) : EReal := x (ix2 (star n) (0 : Fin 1))
/-- A vector of 50000 entries, read as a sequence. -/
def seqOf1 (x : Cert.KernelIdeal.S50000.Idx → EReal) (n : ℕ) : EReal := x (ix1 (star n))

/-- No star falls right of column 119. -/
theorem mapAt_right (r d mg : ℕ → EReal) (hr : ∀ n, (0 : EReal) ≤ r n ∧ r n < (1 : EReal)) (i j : ℕ) (hj : 128 ≤ j) : mapAt r d mg i j = 0 := by
  unfold mapAt
  refine lastHit_of_none _ _ fun n _ h => ?_
  have := (col_word (r n) (hr n).1 (hr n).2).2
  omega

/-! ## The kernel's result -/

section Kernel

open Cert.KernelIdeal Cert.KernelIdeal.Gen

theorem starIx_eq (n : ℕ) : starIx n = ix1 (star n) := by
  unfold starIx star
  funext a
  match a with
  | ⟨0, _⟩ => rfl

theorem cast_col (x : S50000x1.Idx → EReal) (h : S50000x1.ShapeCasts S50000) (n : ℕ) : shapeCast S50000 x h (ix1 (star n)) = seqOf x n := by
  unfold seqOf
  simp only [pointwise]
  rfl

variable (m : (ℓ : Loc nD τ sig) → Buf (Elt Ideal) ℓ) (d : Dev nD)

theorem ras_eq : ras (F := Ideal) m d = shapeCast S50000 (m ((d.tc : Thread nD τ).loc main_arg0)) shapeCasts_S50000x1_S50000 := by
  unfold ras V2 V1
  rw [(opDec (F := Ideal)).result_of_not_mem _ (show v0' ∉ ({v1'} : Finset (DevRef τ sig)) by decide)]
  exact StableHlo.reshape_result ..

theorem decs_eq : decs (F := Ideal) m d = shapeCast S50000 (m ((d.tc : Thread nD τ).loc main_arg1)) shapeCasts_S50000x1_S50000 := by
  unfold decs V2 V1
  refine (StableHlo.reshape_result ..).trans ?_
  rw [(opRa (F := Ideal)).result_of_not_mem _ (show a1' ∉ ({v0'} : Finset (DevRef τ sig)) by decide)]
  rfl

theorem mags_eq : mags (F := Ideal) m d = m ((d.tc : Thread nD τ).loc main_arg2) :=
  V2_kept m d a2' (by decide) (by decide)

/-- The canvas as rows of 128, read at a row and a column. -/
theorem rows_at (r : Fin 1441) (c : Fin 128) :
    rows (F := Ideal) m d (cnvIx r c)
      = canvasOf (F := Ideal) m d (ix1 (⟨r.val * 128 + c.val, by omega⟩ : Fin 184448)) := by
  have e : rows (F := Ideal) m d = shapeCast S1441x128 (canvasOf (F := Ideal) m d) shapeCasts_S184448_S1441x128 := by
    unfold rows V4
    refine (StableHlo.reshape_result ..).trans ?_
    rw [V3_v2]
    rfl
  have ec : cnvIx r c = ix2 r c := by
    unfold cnvIx
    funext a
    match a with
    | ⟨0, _⟩ => rfl
    | ⟨1, _⟩ => rfl
  rw [e, ec]
  simp only [pointwise]
  rfl

/-- The kernel's result at a row and a column: the map of its three arguments. -/
theorem kernel_map (hr : Unit01 (m ((d.tc : Thread nD τ).loc main_arg0))) (hd : Unit01 (m ((d.tc : Thread nD τ).loc main_arg1)))
    (i : Fin 1441) (j : Fin 2880) :
    wide (rows (F := Ideal) m d) (ix2 i j)
      = mapAt (seqOf (m ((d.tc : Thread nD τ).loc main_arg0))) (seqOf (m ((d.tc : Thread nD τ).loc main_arg1)))
          (seqOf1 (m ((d.tc : Thread nD τ).loc main_arg2))) i.val j.val := by
  have hs : ∀ n, (0 : EReal) ≤ seqOf (m ((d.tc : Thread nD τ).loc main_arg0)) n ∧ seqOf (m ((d.tc : Thread nD τ).loc main_arg0)) n < (1 : EReal) :=
    fun n => hr _
  unfold wide
  by_cases h : j.val < 128
  · refine (dif_pos h).trans ?_
    refine (rows_at m d i ⟨j.val, h⟩).trans ?_
    unfold canvasOf
    rw [canvas_map (ras m d) (decs m d) (mags m d) (by rw [ras_eq]; exact fun _ => hr _) (by rw [decs_eq]; exact fun _ => hd _)]
    rw [ras_eq, decs_eq, mags_eq]
    simp only [starIx_eq]
    rw [funext fun n => cast_col (m ((d.tc : Thread nD τ).loc main_arg0)) shapeCasts_S50000x1_S50000 n,
      funext fun n => cast_col (m ((d.tc : Thread nD τ).loc main_arg1)) shapeCasts_S50000x1_S50000 n]
    show mapAt _ _ _ ((i.val * 128 + j.val) / 128) ((i.val * 128 + j.val) % 128) = _
    rw [show (i.val * 128 + j.val) / 128 = i.val by omega, show (i.val * 128 + j.val) % 128 = j.val by omega]
    rfl
  · refine (dif_neg h).trans ?_
    rw [mapAt_right _ _ _ hs _ _ (by omega)]
    exact Ideal.ofBits_zero_f32

end Kernel

end Cert.Proof.StarMap

end
-- ==== Proof.Algebraic.lean ====
/- The kernel and the reference, at the ideal instance and for stars with coordinates in [0, 1), leave the same map: the
   reference's operations read at a row and a column, the precondition read back, and the claim. -/
module

public import proofs.«01_k».proof.Defs
public import proofs.«01_k».proof.Proof.Gen.Pre_in_range
public import proofs.«01_k».proof.Proof.Values
public import Idealize.ShloMosaic.Lib.ReduceAll
public import Idealize.ShloMosaic.Lib.Pointwise

@[expose] public section

noncomputable section

namespace Cert.Proof.StarMap

open Idealize.ShloMosaic hiding ix1 ix2
open Idealize.ShloMosaic.ValueIdx
open Idealize.ShloMosaic.LaneScatter (lastHit lastHit_congr)
open Idealize.SL.Sem
open Cert.Proof.Stars Cert.Proof.KernelIdealRun

/-! ## The reference's result -/

section Reference

open Cert.ReferenceIdeal Cert.ReferenceIdeal.Gen

/-- The rows of the stars as the reference computes them: the floors, converted. -/
def latV (x : S50000x1.Idx → EReal) : IVec S50000 32 :=
  fptosi (F := Ideal) (φ := .f32) 32 (Host.floor (mulf (shapeCast _ (addf (Host.divf (mulf x (broadcastInDim S50000x1 ![] bcast_S_S50000x1 (constant S_ .f32 0x43340000#32))) (broadcastInDim S50000x1 ![] bcast_S_S50000x1 (constant S_ .f32 0x40490FDB#32))) (broadcastInDim S50000x1 ![] bcast_S_S50000x1 (constant S_ .f32 0x42B40000#32))) shapeCasts_S50000x1_S50000) (broadcastInDim S50000 ![] bcast_S_S50000 (constant S_ .f32 0x41000000#32))))

/-- The columns. -/
def lngV (x : S50000x1.Idx → EReal) : IVec S50000 32 :=
  fptosi (F := Ideal) (φ := .f32) 32 (Host.floor (mulf (shapeCast _ (mulf x (broadcastInDim S50000x1 ![] bcast_S_S50000x1 (constant S_ .f32 0x41700000#32))) shapeCasts_S50000x1_S50000) (broadcastInDim S50000 ![] bcast_S_S50000 (constant S_ .f32 0x41000000#32))))

/-- An index from below zero is taken from the end, as the reference's indexing prints it. -/
def wrapV (v : IVec S50000 32) (n : BitVec 32) : IVec S50000 32 :=
  select (cmpi .slt v (broadcastInDim S50000 ![] bcast_S_S50000 (constantI S_ 32 0#32))) (addi v (broadcastInDim S50000 ![] bcast_S_S50000 (constantI S_ 32 n))) v

/-- The pairs of index words. -/
def pairsV (a b : IVec S50000 32) : IVec S50000x2 32 :=
  concatenate S50000x2 1 [⟨S50000x1, broadcastInDim S50000x1 ![0] bcast_S50000_S50000x1_0 a⟩, ⟨S50000x1, broadcastInDim S50000x1 ![0] bcast_S50000_S50000x1_0 b⟩] concatenates_S50000x1_S50000x1_S50000x2_d1

/-- The reference's result as its run states it. -/
def outV (r d : S50000x1.Idx → EReal) (mg : S50000.Idx → EReal) : S1441x2880.Idx → EReal :=
  Host.reverse [0] (mulf (F := Ideal) (φ := .f32) (Host.scatter scatter_S1441x2880_S50000x2_S50000_n_01_01_1 (fun _ b => b) (broadcastInDim S1441x2880 ![] bcast_S_S1441x2880 (constant S_ .f32 0x00000000#32)) (pairsV (wrapV (latV d) 1441#32) (wrapV (lngV r) 2880#32)) mg) (broadcastInDim S1441x2880 ![] bcast_S_S1441x2880 (constant S_ .f32 0x437F0000#32)))

theorem cast_at (x : S50000x1.Idx → EReal) (h : S50000x1.ShapeCasts S50000) (n : Fin 50000) : shapeCast S50000 x h (ix1 n) = x (ix2 n (0 : Fin 1)) := by
  simp only [pointwise]
  rfl

theorem latV_at (x : S50000x1.Idx → EReal) (n : Fin 50000) : latV x (ix1 n) = Ideal.fptosi 32 (Ideal.liftRound Int.floor (rowX (x (ix2 n (0 : Fin 1))))) := by
  unfold latV rowX
  show Ideal.fptosi 32 (Ideal.liftRound Int.floor (shapeCast S50000 _ shapeCasts_S50000x1_S50000 (ix1 n) * _)) = _
  rw [cast_at]
  rfl

theorem lngV_at (x : S50000x1.Idx → EReal) (n : Fin 50000) : lngV x (ix1 n) = Ideal.fptosi 32 (Ideal.liftRound Int.floor (colX (x (ix2 n (0 : Fin 1))))) := by
  unfold lngV colX
  show Ideal.fptosi 32 (Ideal.liftRound Int.floor (shapeCast S50000 _ shapeCasts_S50000x1_S50000 (ix1 n) * _)) = _
  rw [cast_at]
  rfl

theorem wrapV_at (v : IVec S50000 32) (k : BitVec 32) (n : Fin 50000) (h : (v (ix1 n)).toNat < 2 ^ 31) : wrapV v k (ix1 n) = v (ix1 n) :=
  Routing.wrap_of_lt (v (ix1 n)) (v (ix1 n) + k) h

theorem pairsV_0 (a b : IVec S50000 32) (n : Fin 50000) : pairsV a b (ix2 n (0 : Fin 2)) = a (ix1 n) := by
  unfold pairsV
  refine (concatenate_pair_apply_left (s₁ := S50000x1) (s₂ := S50000x1) _ _ _ _ (ix2 n (0 : Fin 2)) rfl (ix2 n (0 : Fin 1)) ?_).trans ?_
  · intro b
    match b with
    | ⟨0, _⟩ => rfl
    | ⟨1, _⟩ => rfl
  · refine congrArg a ?_
    funext b
    match b with
    | ⟨0, _⟩ => rfl

theorem pairsV_1 (a b : IVec S50000 32) (n : Fin 50000) : pairsV a b (ix2 n (1 : Fin 2)) = b (ix1 n) := by
  unfold pairsV
  refine (concatenate_pair_apply_right (s₁ := S50000x1) (s₂ := S50000x1) _ _ _ _ (ix2 n (1 : Fin 2)) rfl rfl (ix2 n (0 : Fin 1)) ?_ rfl).trans ?_
  · intro b hb
    match b with
    | ⟨0, _⟩ => rfl
    | ⟨1, _⟩ => exact absurd rfl hb
  · refine congrArg b ?_
    funext b
    match b with
    | ⟨0, _⟩ => rfl

theorem star_val (n : Fin 50000) : star n.val = n := Fin.ext (Nat.mod_eq_of_lt n.isLt)

/-- A word below 2³¹ is the same read signed. -/
theorem toInt_small (x : BitVec 32) (h : x.toNat < 2 ^ 31) : x.toInt = (x.toNat : ℤ) := by
  rw [BitVec.toInt_eq_toNat_cond]
  split <;> omega

/-- The reference's index words are the star's row and column. -/
theorem rowWords (r d : S50000x1.Idx → EReal) (hd : Unit01 d) (n : Fin 50000) :
    (pairsV (wrapV (latV d) 1441#32) (wrapV (lngV r) 2880#32) (ix2 n (0 : Fin 2))).toInt = ((rowW (seqOf d n.val)).toNat : ℤ) := by
  obtain ⟨e, -, h⟩ := row_word (d (ix2 n (0 : Fin 1))) (hd _).1 (hd _).2
  have el : latV d (ix1 n) = rowW (d (ix2 n (0 : Fin 1))) := (latV_at d n).trans e
  rw [pairsV_0, wrapV_at _ _ _ (by rw [el]; omega), el, toInt_small _ (by omega)]
  unfold seqOf
  rw [star_val]

theorem colWords (r d : S50000x1.Idx → EReal) (hr : Unit01 r) (n : Fin 50000) :
    (pairsV (wrapV (latV d) 1441#32) (wrapV (lngV r) 2880#32) (ix2 n (1 : Fin 2))).toInt = ((colW (seqOf r n.val)).toNat : ℤ) := by
  obtain ⟨e, h⟩ := col_word (r (ix2 n (0 : Fin 1))) (hr _).1 (hr _).2
  have el : lngV r (ix1 n) = colW (r (ix2 n (0 : Fin 1))) := (lngV_at r n).trans e
  rw [pairsV_1, wrapV_at _ _ _ (by rw [el]; omega), el, toInt_small _ (by omega)]
  unfold seqOf
  rw [star_val]

/-- The reference's result at a row and a column: the same map. -/
theorem reference_map (r d : S50000x1.Idx → EReal) (mg : S50000.Idx → EReal) (hr : Unit01 r) (hd : Unit01 d) (i : Fin 1441) (j : Fin 2880) :
    outV r d mg (ix2 i j) = mapAt (seqOf r) (seqOf d) (seqOf1 mg) i.val j.val := by
  have hs := scatter_pairs scatter_S1441x2880_S50000x2_S50000_n_01_01_1 rfl rfl rfl
    (broadcastInDim S1441x2880 ![] bcast_S_S1441x2880 (constant (F := Ideal) S_ .f32 0x00000000#32))
    (pairsV (wrapV (latV d) 1441#32) (wrapV (lngV r) 2880#32)) mg
    (fun n => ((rowW (seqOf d n)).toNat : ℤ)) (fun n => ((colW (seqOf r n)).toNat : ℤ)) (seqOf1 mg)
    (rowWords r d hd) (colWords r d hr) (fun n => by unfold seqOf1; rw [star_val]) i.rev j
  have hx : outV r d mg (ix2 i j)
      = Host.scatter scatter_S1441x2880_S50000x2_S50000_n_01_01_1 (fun _ b => b)
          (broadcastInDim S1441x2880 ![] bcast_S_S1441x2880 (constant (F := Ideal) S_ .f32 0x00000000#32))
          (pairsV (wrapV (latV d) 1441#32) (wrapV (lngV r) 2880#32)) mg (ix2 i.rev j) * Ideal.ofBits .f32 0x437F0000#32 := by
    have ei : (fun a : Fin 2 => if a ∈ ([0] : List (Fin 2)) then ((ix2 i j : S1441x2880.Idx) a).rev else (ix2 i j : S1441x2880.Idx) a) = (ix2 i.rev j : S1441x2880.Idx) := by
      funext a
      match a with
      | ⟨0, _⟩ => rfl
      | ⟨1, _⟩ => rfl
    unfold outV
    exact congrArg (mulf (F := Ideal) (φ := .f32) (Host.scatter scatter_S1441x2880_S50000x2_S50000_n_01_01_1 (fun _ b => b)
          (broadcastInDim S1441x2880 ![] bcast_S_S1441x2880 (constant (F := Ideal) S_ .f32 0x00000000#32))
          (pairsV (wrapV (latV d) 1441#32) (wrapV (lngV r) 2880#32)) mg) (broadcastInDim S1441x2880 ![] bcast_S_S1441x2880 (constant S_ .f32 0x437F0000#32))) ei
  rw [hx, hs, map_lastHit (fun x : EReal => x * Ideal.ofBits .f32 0x437F0000#32)]
  have h0 : (broadcastInDim S1441x2880 ![] bcast_S_S1441x2880 (constant (F := Ideal) S_ .f32 0x00000000#32) (ix2 i.rev j) : EReal) * Ideal.ofBits .f32 0x437F0000#32 = 0 := by
    show Ideal.ofBits .f32 0x00000000#32 * _ = _
    rw [Ideal.ofBits_zero_f32, zero_mul]
  rw [h0]
  unfold mapAt
  refine lastHit_congr _ (fun n _ => ?_) (fun n _ _ => rfl)
  obtain ⟨-, -, a1⟩ := row_word (seqOf d n) (hd _).1 (hd _).2
  have hi := i.isLt
  rw [Fin.val_rev]
  omega

end Reference

/-! ## The precondition -/

theorem lit0 : Ideal.ofBits .f32 0x00000000#32 = (0 : EReal) := Ideal.ofBits_zero_f32
theorem lit1 : Ideal.ofBits .f32 0x3F800000#32 = (1 : EReal) := Ideal.ofBits_one_f32

instance : Subsingleton Cert.Pre_in_range.S_.Idx := ⟨fun a b => funext fun q => q.elim0⟩

/-- The two comparisons of one entry, read back. -/
theorem unit_of_word (x : EReal) (h : IntOp.andi (Ideal.cmp .oge x (Ideal.ofBits .f32 0x00000000#32)) (Ideal.cmp .olt x (Ideal.ofBits .f32 0x3F800000#32)) = 1#1) :
    (0 : EReal) ≤ x ∧ x < (1 : EReal) := by
  obtain ⟨h0, h1⟩ := IntOp.andi_eq_one.1 h
  rw [lit0] at h0
  rw [lit1] at h1
  unfold Ideal.cmp at h0 h1
  simpa [ofBool_one] using And.intro h0 h1

/-- `in_range` is all ones only where both coordinates of every star lie in [0, 1). -/
theorem pre_reads (a0 a1 : Cert.Pre_in_range.S50000x1.Idx → EReal) (a2 : Cert.Pre_in_range.S50000.Idx → EReal)
    (h : Cert.Pre_in_range.fn (F := Ideal) a0 a1 a2 = fun _ => 1#1) : Unit01 a0 ∧ Unit01 a1 := by
  have h' := congrFun h (fun q => q.elim0)
  obtain ⟨h0, h1⟩ := IntOp.andi_eq_one.1 h'
  exact ⟨fun i => unit_of_word _ (Host.reduce_andi_all _ _ _ _ _ h0 i), fun i => unit_of_word _ (Host.reduce_andi_all _ _ _ _ _ h1 i)⟩

/-! ## The claim -/

theorem map_eq (r d : Cert.KernelIdeal.S50000x1.Idx → EReal) (mg : Cert.KernelIdeal.S50000.Idx → EReal) (hr : Unit01 r) (hd : Unit01 d)
    (x : Cert.KernelIdeal.S1441x2880.Idx → EReal) (hx : ∀ (i : Fin 1441) (j : Fin 2880), x (ix2 i j) = mapAt (seqOf r) (seqOf d) (seqOf1 mg) i.val j.val) :
    outV r d mg = x := by
  funext ι
  have e : ι = ix2 (ι 0) (ι 1) := by
    funext a
    match a with
    | ⟨0, _⟩ => rfl
    | ⟨1, _⟩ => rfl
  rw [e]
  exact (reference_map r d mg hr hd (ι 0) (ι 1)).trans (hx (ι 0) (ι 1)).symm

/-- From equal arguments with coordinates in [0, 1), the kernel's result and the reference's are the same array of extended reals. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hp ha
  refine ⟨fun c => wide (rows (F := Ideal) m c), ?_, ?_⟩
  · exact (θ_run _ _ _).mono (fun _ h c => ⟨(h.1 c).2.2.2, (h.1 c).1, (h.1 c).2.1, (h.1 c).2.2.1⟩) (run_main (F := Ideal) m g)
  · refine (θ_run _ _ _).mono (fun r h c => ⟨?_, (h c).2⟩) (Cert.ReferenceIdeal.Value.run (F := Ideal) m' g')
    obtain ⟨hr, hd⟩ := pre_reads _ _ _ (hp c)
    refine (h c).1.trans ?_
    rw [(ha c).1, (ha c).2.1, (ha c).2.2]
    exact map_eq _ _ _ hr hd _ (kernel_map m c hr hd)

end Cert.Proof.StarMap

end
-- ==== Proof.lean ====
module

public import proofs.«01_k».proof.Defs
public import proofs.«01_k».proof.Proof.Gen.Pre_in_range
public import proofs.«01_k».proof.Proof.Frames
public import proofs.«01_k».proof.Proof.Algebraic

@[expose] public section

noncomputable section

namespace Cert.Proof

/-- Everything the statement claims. -/
theorem claim : Cert.Claim :=
  ⟨Cert.Kernel.Gen.facts, Cert.KernelIdeal.Gen.facts, Cert.ReferenceIdeal.Gen.facts, Cert.Pre_in_range.Gen.facts,
    frame_Kernel, frame_KernelIdeal, fun m g _ => frame_KernelIdeal m g trivial,
    frame_ReferenceIdeal, fun m g _ => frame_ReferenceIdeal m g trivial, trivial, StarMap.algebraic⟩

end Cert.Proof

end
